-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_drawn [hPre_batch_drawn : Cert.Pre_batch_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_batch_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_drawn [hPre_batch_drawn : Cert.Pre_batch_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_batch_drawn [hKernelIdeal : Cert.KernelIdeal.Facts] [hPre_batch_drawn : Cert.Pre_batch_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_batch_drawn [hReferenceIdeal : Cert.ReferenceIdeal.Facts] [hPre_batch_drawn : Cert.Pre_batch_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_batch_drawn [hKernelIdeal : Cert.KernelIdeal.Facts] [hReferenceIdeal : Cert.ReferenceIdeal.Facts] [hPre_batch_drawn : Cert.Pre_batch_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33_3) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_batch_drawn : Cert.Pre_batch_drawn.Facts),
    quiescent_Kernel (hKernel := hKernel)
    ∧ quiescent_KernelIdeal (hKernelIdeal := hKernelIdeal)
    ∧ quiescent_KernelIdeal_pre_batch_drawn (hKernelIdeal := hKernelIdeal) (hPre_batch_drawn := hPre_batch_drawn)
    ∧ quiescent_ReferenceIdeal (hReferenceIdeal := hReferenceIdeal)
    ∧ quiescent_ReferenceIdeal_pre_batch_drawn (hReferenceIdeal := hReferenceIdeal) (hPre_batch_drawn := hPre_batch_drawn)
    ∧ preserves_Kernel_KernelIdeal
    ∧ algebraic_KernelIdeal_ReferenceIdeal_pre_batch_drawn (hKernelIdeal := hKernelIdeal) (hReferenceIdeal := hReferenceIdeal) (hPre_batch_drawn := hPre_batch_drawn)
-- ==== Pre_batch_drawn.lean ====
abbrev S4096x6 : Shape := ⟨2, ![4096, 6]⟩
abbrev S4096x5 : Shape := ⟨2, ![4096, 5]⟩
abbrev S4096x1 : Shape := ⟨2, ![4096, 1]⟩
abbrev S4096 : Shape := ⟨1, ![4096]⟩
abbrev S_ : Shape := ⟨0, ![]⟩

class Facts : Prop where
  slices_S4096x6_S4096x1_0_0 : S4096x6.Slices ![0, 0] S4096x1
  shapeCasts_S4096x1_S4096 : S4096x1.ShapeCasts S4096
  bcast_S_S4096 : S_.BroadcastsInDim S4096 (![] : Fin 0 → Fin S4096.rank)

variable [Facts]

def fn {F : FTy → Type} [FloatOps F] (main_arg0 : FVec F S4096x6 .f32) (main_arg1 : FVec F S4096x5 .f32) : IVec S4096 1 :=
  let main_v0 : FVec F S4096x1 .f32 := (extractStridedSlice S4096x1 ![0, 0] · slices_S4096x6_S4096x1_0_0) main_arg0
  let main_v1 : FVec F S4096 .f32 := shapeCast S4096 main_v0 shapeCasts_S4096x1_S4096
  let main_cst : FVec F S_ .f32 := constant S_ .f32 0x00000000#32
  let main_v2 : FVec F S4096 .f32 := broadcastInDim S4096 ![] bcast_S_S4096 main_cst
  let main_v3 : IVec S4096 1 := cmpf .oeq main_v1 main_v2
  let main_cst_0 : FVec F S_ .f32 := constant S_ .f32 0x3F800000#32
  let main_v4 : FVec F S4096 .f32 := broadcastInDim S4096 ![] bcast_S_S4096 main_cst_0
  let main_v5 : IVec S4096 1 := cmpf .oeq main_v1 main_v4
  let main_v6 : IVec S4096 1 := ori main_v3 main_v5
  let main_cst_1 : FVec F S_ .f32 := constant S_ .f32 0x40000000#32
  let main_v7 : FVec F S4096 .f32 := broadcastInDim S4096 ![] bcast_S_S4096 main_cst_1
  let main_v8 : IVec S4096 1 := cmpf .oeq main_v1 main_v7
  let main_v9 : IVec S4096 1 := ori main_v6 main_v8
  let main_cst_2 : FVec F S_ .f32 := constant S_ .f32 0x40400000#32
  let main_v10 : FVec F S4096 .f32 := broadcastInDim S4096 ![] bcast_S_S4096 main_cst_2
  let main_v11 : IVec S4096 1 := cmpf .oeq main_v1 main_v10
  let main_v12 : IVec S4096 1 := ori main_v9 main_v11
  main_v12
-- ==== Kernel.lean ====
abbrev S4096x6 : Shape := ⟨2, ![4096, 6]⟩
abbrev S4096x5 : Shape := ⟨2, ![4096, 5]⟩
abbrev S6x4096 : Shape := ⟨2, ![6, 4096]⟩
abbrev S5x4096 : Shape := ⟨2, ![5, 4096]⟩
abbrev S1x4096 : Shape := ⟨2, ![1, 4096]⟩
abbrev S4096x1 : Shape := ⟨2, ![4096, 1]⟩
abbrev S4096x4 : Shape := ⟨2, ![4096, 4]⟩
abbrev S4096 : Shape := ⟨1, ![4096]⟩
abbrev S4096x4096 : Shape := ⟨2, ![4096, 4096]⟩
abbrev S256x1 : Shape := ⟨2, ![256, 1]⟩
abbrev S256x4096 : Shape := ⟨2, ![256, 4096]⟩
abbrev S256x5 : Shape := ⟨2, ![256, 5]⟩
abbrev S256 : Shape := ⟨1, ![256]⟩
abbrev S1x1x4096 : Shape := ⟨3, ![1, 1, 4096]⟩
abbrev S1 : Shape := ⟨1, ![1]⟩
abbrev S1x1x1 : Shape := ⟨3, ![1, 1, 1]⟩
abbrev S1x256 : Shape := ⟨2, ![1, 256]⟩
abbrev S4096x256 : Shape := ⟨2, ![4096, 256]⟩
abbrev S256x4 : Shape := ⟨2, ![256, 4]⟩

abbrev nBuf : Space → Nat
  | .hbm => 13
  | .vmem => 12
  | .smem => 0
  | _ => 0

abbrev bufTy : (tb : Table) → Fin (tcTables nBuf tb) → BufTy
  | .hbm, ⟨0, _⟩ => ⟨S4096x6, .f32⟩
  | .hbm, ⟨1, _⟩ => ⟨S4096x5, .f32⟩
  | .hbm, ⟨2, _⟩ => ⟨S6x4096, .f32⟩
  | .hbm, ⟨3, _⟩ => ⟨S5x4096, .f32⟩
  | .hbm, ⟨4, _⟩ => ⟨S1x4096, .i32⟩
  | .hbm, ⟨5, _⟩ => ⟨S4096x1, .f32⟩
  | .hbm, ⟨6, _⟩ => ⟨S4096x4, .f32⟩
  | .hbm, ⟨7, _⟩ => ⟨S4096, .i32⟩
  | .hbm, ⟨8, _⟩ => ⟨S4096x1, .f32⟩
  | .hbm, ⟨9, _⟩ => ⟨S4096, .f32⟩
  | .hbm, ⟨10, _⟩ => ⟨S4096, .i32⟩
  | .hbm, ⟨11, _⟩ => ⟨S4096, .f32⟩
  | .hbm, ⟨12, _⟩ => ⟨S4096, .i32⟩
  | .local _ .vmem, ⟨0, _⟩ => ⟨S4096x6, .f32⟩
  | .local _ .vmem, ⟨1, _⟩ => ⟨S6x4096, .f32⟩
  | .local _ .vmem, ⟨2, _⟩ => ⟨S4096x5, .f32⟩
  | .local _ .vmem, ⟨3, _⟩ => ⟨S5x4096, .f32⟩
  | .local _ .vmem, ⟨4, _⟩ => ⟨S1x4096, .i32⟩
  | .local _ .vmem, ⟨5, _⟩ => ⟨S4096x1, .f32⟩
  | .local _ .vmem, ⟨6, _⟩ => ⟨S4096x4, .f32⟩
  | .local _ .vmem, ⟨7, _⟩ => ⟨S4096x4096, .i8⟩
  | .local _ .vmem, ⟨8, _⟩ => ⟨S4096x1, .f32⟩
  | .local _ .vmem, ⟨9, _⟩ => ⟨S1x4096, .f32⟩
  | .local _ .vmem, ⟨10, _⟩ => ⟨S4096x1, .f32⟩
  | .local _ .vmem, ⟨11, _⟩ => ⟨S1x4096, .f32⟩
  | _, _ => ⟨S4096x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_v0_3 : Ref sig .tc := ⟨.hbm, 6, rfl⟩
abbrev main_v0_0 : Ref sig .tc := ⟨.hbm, 7, rfl⟩
abbrev main_call0_v4 : Ref sig .tc := ⟨.hbm, 8, rfl⟩
abbrev main_call0_v5 : Ref sig .tc := ⟨.hbm, 9, rfl⟩
abbrev main_v0_1 : Ref sig .tc := ⟨.hbm, 10, rfl⟩
abbrev main_call0_v7 : Ref sig .tc := ⟨.hbm, 11, rfl⟩
abbrev main_v0_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v24 : BitVec 32 := Scalar.addi c0_i32 c16_i32
  let c1_i32 : BitVec 32 := 1#32
  ⟨c0_i32, v24, c1_i32⟩
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v65 : BitVec 32 := Scalar.muli arg12 c256_i32
  let v66 : Index := Scalar.indexCast v65
  let c1_37 : Index := 1#32
  ![v66.toNat, 1]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v65 : BitVec 32 := Scalar.muli arg12 c256_i32
  let v71 : Index := Scalar.indexCast v65
  let c2_38 : Index := 2#32
  ![v71.toNat, 2]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v65 : BitVec 32 := Scalar.muli arg12 c256_i32
  let v76 : Index := Scalar.indexCast v65
  let c3_39 : Index := 3#32
  ![v76.toNat, 3]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v65 : BitVec 32 := Scalar.muli arg12 c256_i32
  let v86 : Index := Scalar.indexCast v65
  let c0_40 : Index := 0#32
  ![v86.toNat, 0]
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v65 : BitVec 32 := Scalar.muli arg12 c256_i32
  let v98 : Index := Scalar.indexCast v65
  let c0_44 : Index := 0#32
  ![v98.toNat, 0]
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v65 : BitVec 32 := Scalar.muli arg12 c256_i32
  let v110 : Index := Scalar.indexCast v65
  let c0_47 : Index := 0#32
  ![v110.toNat, 0]
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v65 : BitVec 32 := Scalar.muli arg12 c256_i32
  let v122 : Index := Scalar.indexCast v65
  let c0_50 : Index := 0#32
  ![v122.toNat, 0]
@[reducible] def k0_t2_loop : Scf.Loop 32 :=
  let c0_i32_45 : BitVec 32 := 0#32
  let c16_i32_46 : BitVec 32 := 16#32
  let v74 : BitVec 32 := Scalar.addi c0_i32_45 c16_i32_46
  let c1_i32_47 : BitVec 32 := 1#32
  ⟨c0_i32_45, v74, c1_i32_47⟩
def k0_off8 (k0_t2 : Fin k0_t2_loop.trips) : Fin 2 → Nat :=
  let c0_i32_45 : BitVec 32 := 0#32
  let c1_i32_47 : BitVec 32 := 1#32
  let arg14 : BitVec 32 := Scf.iv c0_i32_45 c1_i32_47 k0_t2
  let c256_i32 : BitVec 32 := 256#32
  let v88 : BitVec 32 := Scalar.muli arg14 c256_i32
  let v89 : Index := Scalar.indexCast v88
  let c0_56 : Index := 0#32
  ![v89.toNat, 0]
def k0_off9 (k0_t2 : Fin k0_t2_loop.trips) : Fin 2 → Nat :=
  let c0_i32_45 : BitVec 32 := 0#32
  let c1_i32_47 : BitVec 32 := 1#32
  let arg14 : BitVec 32 := Scf.iv c0_i32_45 c1_i32_47 k0_t2
  let c256_i32 : BitVec 32 := 256#32
  let v88 : BitVec 32 := Scalar.muli arg14 c256_i32
  let v92 : Index := Scalar.indexCast v88
  let c0_57 : Index := 0#32
  ![v92.toNat, 0]
@[reducible] def k0_t3_loop : Scf.Loop 32 :=
  let c0_i32_27 : BitVec 32 := 0#32
  let c16_i32_28 : BitVec 32 := 16#32
  let v59 : BitVec 32 := Scalar.addi c0_i32_27 c16_i32_28
  let c1_i32_29 : BitVec 32 := 1#32
  ⟨c0_i32_27, v59, c1_i32_29⟩
def k0_off10 (k0_t3 : Fin k0_t3_loop.trips) : Fin 2 → Nat :=
  let c0_37 : Index := 0#32
  let c0_i32_27 : BitVec 32 := 0#32
  let c1_i32_29 : BitVec 32 := 1#32
  let arg12 : BitVec 32 := Scf.iv c0_i32_27 c1_i32_29 k0_t3
  let c256_i32 : BitVec 32 := 256#32
  let v65 : BitVec 32 := Scalar.muli arg12 c256_i32
  let v66 : Index := Scalar.indexCast v65
  ![0, v66.toNat]
def k0_off11 (k0_t3 : Fin k0_t3_loop.trips) : Fin 2 → Nat :=
  let c0_i32_27 : BitVec 32 := 0#32
  let c1_i32_29 : BitVec 32 := 1#32
  let arg12 : BitVec 32 := Scf.iv c0_i32_27 c1_i32_29 k0_t3
  let c256_i32 : BitVec 32 := 256#32
  let v65 : BitVec 32 := Scalar.muli arg12 c256_i32
  let v73 : Index := Scalar.indexCast v65
  let c1_38 : Index := 1#32
  ![v73.toNat, 1]
abbrev stage0_0 : Fin 1 → Memref sig .tc .vmem S4096x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4096x6 : Shape := ⟨2, ![4096, 6]⟩
abbrev S4096x5 : Shape := ⟨2, ![4096, 5]⟩
abbrev S_ : Shape := ⟨0, ![]⟩
abbrev S4096 : Shape := ⟨1, ![4096]⟩
abbrev S4096x1 : Shape := ⟨2, ![4096, 1]⟩
abbrev S4096x3 : Shape := ⟨2, ![4096, 3]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S4096x4096 : Shape := ⟨2, ![4096, 4096]⟩
abbrev S1x4096 : Shape := ⟨2, ![1, 4096]⟩
abbrev S4096x4 : Shape := ⟨2, ![4096, 4]⟩

abbrev nBuf : Space → Nat
  | .hbm => 88
  | .vmem => 0
  | .smem => 0
  | _ => 0

abbrev bufTy : (tb : Table) → Fin (tcTables nBuf tb) → BufTy
  | .hbm, ⟨0, _⟩ => ⟨S4096x6, .f32⟩
  | .hbm, ⟨1, _⟩ => ⟨S4096x5, .f32⟩
  | .hbm, ⟨2, _⟩ => ⟨S4096x5, .i32⟩
  | .hbm, ⟨3, _⟩ => ⟨S_, .f32⟩
  | .hbm, ⟨4, _⟩ => ⟨S_, .i32⟩
  | .hbm, ⟨5, _⟩ => ⟨S4096, .f32⟩
  | .hbm, ⟨6, _⟩ => ⟨S4096, .i32⟩
  | .hbm, ⟨7, _⟩ => ⟨S4096x1, .f32⟩
  | .hbm, ⟨8, _⟩ => ⟨S4096, .f32⟩
  | .hbm, ⟨9, _⟩ => ⟨S4096x3, .f32⟩
  | .hbm, ⟨10, _⟩ => ⟨S4096x1x3, .f32⟩
  | .hbm, ⟨11, _⟩ => ⟨S1x4096x3, .f32⟩
  | .hbm, ⟨12, _⟩ => ⟨S4096x4096x3, .f32⟩
  | .hbm, ⟨13, _⟩ => ⟨S4096x4096x3, .f32⟩
  | .hbm, ⟨14, _⟩ => ⟨S4096x4096x3, .f32⟩
  | .hbm, ⟨15, _⟩ => ⟨S4096x4096x3, .f32⟩
  | .hbm, ⟨16, _⟩ => ⟨S_, .f32⟩
  | .hbm, ⟨17, _⟩ => ⟨S4096x4096, .f32⟩
  | .hbm, ⟨18, _⟩ => ⟨S4096x1, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x1, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .i1⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S4096x4096, .i1⟩
  | .hbm, ⟨32, _⟩ => ⟨S4096x4096, .i1⟩
  | .hbm, ⟨33, _⟩ => ⟨S4096x4096, .i32⟩
  | .hbm, ⟨34, _⟩ => ⟨S_, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S1x4096, .i1⟩
  | .hbm, ⟨40, _⟩ => ⟨S4096x4096, .i1⟩
  | .hbm, ⟨41, _⟩ => ⟨S4096x4096, .i1⟩
  | .hbm, ⟨42, _⟩ => ⟨S4096, .i32⟩
  | .hbm, ⟨43, _⟩ => ⟨S_, .i32⟩
  | .hbm, ⟨44, _⟩ => ⟨S_, .i32⟩
  | .hbm, ⟨45, _⟩ => ⟨S4096x4096, .i1⟩
  | .hbm, ⟨46, _⟩ => ⟨S_, .i32⟩
  | .hbm, ⟨47, _⟩ => ⟨S_, .i32⟩
  | .hbm, ⟨48, _⟩ => ⟨S4096, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S1x4096, .i32⟩
  | .hbm, ⟨54, _⟩ => ⟨S_, .i32⟩
  | .hbm, ⟨55, _⟩ => ⟨S_, .i32⟩
  | .hbm, ⟨56, _⟩ => ⟨S4096x4096, .i32⟩
  | .hbm, ⟨57, _⟩ => ⟨S4096x4096, .i32⟩
  | .hbm, ⟨58, _⟩ => ⟨S4096x4096, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S4096x1, .i32⟩
  | .hbm, ⟨72, _⟩ => ⟨S4096, .f32⟩
  | .hbm, ⟨73, _⟩ => ⟨S4096, .i32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096, .i32⟩
  | .hbm, ⟨83, _⟩ => ⟨S4096x4, .f32⟩
  | .hbm, ⟨84, _⟩ => ⟨S_, .f32⟩
  | .hbm, ⟨85, _⟩ => ⟨S4096x4, .f32⟩
  | .hbm, ⟨86, _⟩ => ⟨S4096x1, .i32⟩
  | .hbm, ⟨87, _⟩ => ⟨S4096x4, .f32⟩
  | _, _ => ⟨S4096x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_2 : Ref sig .tc := ⟨.hbm, 43, rfl⟩
abbrev main_c_3 : Ref sig .tc := ⟨.hbm, 44, rfl⟩
abbrev main_v33_0 : Ref sig .tc := ⟨.hbm, 45, rfl⟩
abbrev main_v33_1 : Ref sig .tc := ⟨.hbm, 46, rfl⟩
abbrev main_v33_2 : Ref sig .tc := ⟨.hbm, 47, rfl⟩
abbrev main_v33_3 : Ref sig .tc := ⟨.hbm, 48, rfl⟩
abbrev main_while0c_c_12 : Ref sig .tc := ⟨.hbm, 49, rfl⟩
abbrev main_while0c_v53 : Ref sig .tc := ⟨.hbm, 50, rfl⟩
abbrev main_while0b_c_12 : Ref sig .tc := ⟨.hbm, 51, rfl⟩
abbrev main_while0b_v53 : Ref sig .tc := ⟨.hbm, 52, rfl⟩
abbrev main_while0b_v54 : Ref sig .tc := ⟨.hbm, 53, rfl⟩
abbrev main_while0b_c_13 : Ref sig .tc := ⟨.hbm, 54, rfl⟩
abbrev main_while0b_call1_v0 : Ref sig .tc := ⟨.hbm, 55, rfl⟩
abbrev main_while0b_call1_v1 : Ref sig .tc := ⟨.hbm, 56, rfl⟩
abbrev main_while0b_call1_v2 : Ref sig .tc := ⟨.hbm, 57, rfl⟩
abbrev main_while0b_v55 : Ref sig .tc := ⟨.hbm, 58, rfl⟩
abbrev main_while0b_c_14 : Ref sig .tc := ⟨.hbm, 59, rfl⟩
abbrev main_while0b_v56 : Ref sig .tc := ⟨.hbm, 60, rfl⟩
abbrev main_while0b_v57 : Ref sig .tc := ⟨.hbm, 61, rfl⟩
abbrev main_while0b_c_15 : Ref sig .tc := ⟨.hbm, 62, rfl⟩
abbrev main_while0b_v58 : Ref sig .tc := ⟨.hbm, 63, rfl⟩
abbrev main_c_4 : Ref sig .tc := ⟨.hbm, 64, rfl⟩
abbrev main_v34 : Ref sig .tc := ⟨.hbm, 65, rfl⟩
abbrev main_v35 : Ref sig .tc := ⟨.hbm, 66, rfl⟩
abbrev main_c_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_6 : Ref sig .tc := ⟨.hbm, 74, rfl⟩
abbrev main_v42 : Ref sig .tc := ⟨.hbm, 75, rfl⟩
abbrev main_v43 : Ref sig .tc := ⟨.hbm, 76, rfl⟩
abbrev main_c_7 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_8 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩

abbrev nD : Nat := 1
abbrev τ : Topo := Topo.v7x

variable {F : FTy → Type} [FloatOps F]

abbrev main_while0_count : Scf.Loop 32 := ⟨0#32, 20#32, 1#32⟩
-- ==== Proof.KI.Model.lean ====
/-
  What the kernel computes, written down as plain functions of its four input blocks, for any float values: the bands
  of 256 points, the adjacency matrix glued together band by band, the core flags as a column and as a row, one sweep
  of the label loop, the loop with its early exit, and the three result blocks. `Run.lean` proves that the kernel
  leaves exactly these; `Ideal` modules say what they are over the reals.
-/
module

public import proofs.«01_k».proof.Proof.Gen.KernelIdeal.Skeleton
public import Idealize.ShloMosaic.Lib.ValueIdxCore
public import Idealize.ShloMosaic.Lib.ValueIdxCoords

@[expose] public section

set_option maxRecDepth 16384

noncomputable section

namespace Cert.KernelIdeal.Run

open Cert.KernelIdeal Cert.KernelIdeal.Gen
open Idealize.ShloMosaic Idealize.ShloMosaic.ValueIdx

variable {F : FTy → Type} [FloatOps F]

/-! ## Bands of 256 rows -/

/-- Point `x` of band `t`. -/
abbrev pt (t : Fin 16) (x : Fin 256) : Fin 4096 := ⟨256 * t.val + x.val, by omega⟩
/-- The band a point lies in. -/
abbrev bandOf (i : Fin 4096) : Fin 16 := ⟨i.val / 256, by omega⟩
/-- The place of a point in its band. -/
abbrev placeOf (i : Fin 4096) : Fin 256 := ⟨i.val % 256, by omega⟩

section Bands
variable {α : Type} {n : ℕ}

/-- The rows of band `t`. -/
def band (f : (⟨2, ![4096, n]⟩ : Shape).Idx → α) (t : Fin 16) : (⟨2, ![256, n]⟩ : Shape).Idx → α :=
  fun x => f (ix2 (pt t (x 0)) (x 1))
/-- Column `j` of the rows of band `t`. -/
def bandCol (f : (⟨2, ![4096, n]⟩ : Shape).Idx → α) (t : Fin 16) (j : Fin n) : (⟨2, ![256, 1]⟩ : Shape).Idx → α :=
  fun x => f (ix2 (pt t (x 0)) j)
/-- Columns 1 to 4 of the rows of band `t`. -/
def bandFeat (f : (⟨2, ![4096, 6]⟩ : Shape).Idx → α) (t : Fin 16) : (⟨2, ![256, 4]⟩ : Shape).Idx → α :=
  fun x => f (ix2 (pt t (x 0)) ⟨1 + (x 1).val, by have := idx2_lt1 x; omega⟩)
/-- Row `j` of an array with one column per point. -/
def rowAt (f : (⟨2, ![n, 4096]⟩ : Shape).Idx → α) (j : Fin n) : (⟨2, ![1, 4096]⟩ : Shape).Idx → α :=
  fun x => f (ix2 j (x 1))
/-- The lanes of band `t` of one row. -/
def lanes (f : (⟨2, ![1, 4096]⟩ : Shape).Idx → α) (t : Fin 16) : (⟨2, ![1, 256]⟩ : Shape).Idx → α :=
  fun x => f (ix2 (x 0) (pt t (x 1)))
/-- An array of 4096 rows from its sixteen bands. -/
def glue (B : Fin 16 → (⟨2, ![256, n]⟩ : Shape).Idx → α) : (⟨2, ![4096, n]⟩ : Shape).Idx → α :=
  fun y => B (bandOf (y 0)) (ix2 (placeOf (y 0)) (y 1))

end Bands

/-- `f` applied at the bands `0, 1, …, k - 1` in order. -/
def upTo {σ : Type} (f : Fin 16 → σ → σ) (s : σ) : ℕ → σ
  | 0 => s
  | k + 1 => if h : k < 16 then f ⟨k, h⟩ (upTo f s k) else upTo f s k

/-- One band more. -/
theorem upTo_succ {σ : Type} (f : Fin 16 → σ → σ) (s : σ) (k : Fin 16) : upTo f s (k.val + 1) = f k (upTo f s k.val) := by
  rw [upTo, dif_pos k.isLt]

/-! ## The adjacency matrix and the core flags -/

section Build
variable (x0 : Vec F S4096x6 .f32) (x1 : Vec F S6x4096 .f32) (x2 : Vec F S4096x5 .f32) (x3 : Vec F S5x4096 .f32)

/-- The adjacency bits of band `t` against every point. -/
def adjBits (t : Fin 16) : IVec S256x4096 1 :=
  k0_pay14 (k0_pay16 x3 (rowAt x1 0)) (k0_pay17 (rowAt x1 1)) (k0_pay18 (rowAt x1 2)) (k0_pay19 (rowAt x1 3))
    (bandCol x0 t 1) (bandCol x0 t 2) (bandCol x0 t 3) (band x2 t) (bandCol x0 t 0)
/-- The same as bytes. -/
def adjBytes (t : Fin 16) : IVec S256x4096 8 :=
  k0_pay21 (k0_pay15 (k0_pay16 x3 (rowAt x1 0)) (k0_pay17 (rowAt x1 1)) (k0_pay18 (rowAt x1 2)) (k0_pay19 (rowAt x1 3))
    (bandCol x0 t 1) (bandCol x0 t 2) (bandCol x0 t 3) (band x2 t) (bandCol x0 t 0))
/-- The adjacency matrix. -/
def adj : IVec S4096x4096 8 := glue (adjBytes x0 x1 x2 x3)
/-- The core flags as a column. -/
def coreCol : Vec F S4096x1 .f32 := glue fun t => k0_pay23 (F := F) (adjBits x0 x1 x2 x3 t)
/-- The neighbour counts summed down the columns, over the bands below `k`. -/
def counts : ℕ → FVec F S1x4096 .f32 := upTo (fun t s => k0_pay24 s (adjBits x0 x1 x2 x3 t)) (k0_pay20 (F := F))
/-- One band more of counts. -/
theorem counts_succ (t : Fin 16) : counts x0 x1 x2 x3 (t.val + 1) = k0_pay24 (counts x0 x1 x2 x3 t.val) (adjBits x0 x1 x2 x3 t) :=
  upTo_succ _ _ t
/-- The core flags as a row. -/
def coreRow : Vec F S1x4096 .f32 := k0_pay25 (counts x0 x1 x2 x3 16)

end Build

/-! ## The label loop -/

section Loop
variable (A : IVec S4096x4096 8) (cc : Vec F S4096x1 .f32) (cr : Vec F S1x4096 .f32)

/-- The label column after one sweep. -/
def sweepCol (lc : Vec F S4096x1 .f32) (lr : Vec F S1x4096 .f32) : Vec F S4096x1 .f32 :=
  glue fun t => k0_pay9 cr lr (band A t) (band lc t)
/-- The smallest label seen in each lane, over the bands below `k`. -/
def laneMin (lc : Vec F S4096x1 .f32) : ℕ → FVec F S1x4096 .f32 :=
  upTo (fun t s => k0_pay10 s (band A t) (band lc t) (band cc t)) (k0_pay7 (F := F))
/-- One band more of labels. -/
theorem laneMin_succ (lc : Vec F S4096x1 .f32) (t : Fin 16) :
    laneMin A cc lc (t.val + 1) = k0_pay10 (laneMin A cc lc t.val) (band A t) (band lc t) (band cc t) := upTo_succ _ _ t
/-- The label row after one sweep. -/
def sweepRow (lc : Vec F S4096x1 .f32) (lr : Vec F S1x4096 .f32) : Vec F S1x4096 .f32 := k0_pay12 (laneMin A cc lc 16) lr
/-- Whether the sweep changed a label. -/
def changed (lc : Vec F S4096x1 .f32) (lr : Vec F S1x4096 .f32) : BitVec 1 :=
  Scalar.cmpf .ogt (k0_pay13 (laneMin A cc lc 16) lr) (Scalar.ofBits .f32 0x00000000#32)

/-- The labels, as a column and as a row, after at most `n` sweeps: none if the flag says that nothing changed. -/
def sweeps : ℕ → BitVec 1 → Vec F S4096x1 .f32 × Vec F S1x4096 .f32 → Vec F S4096x1 .f32 × Vec F S1x4096 .f32
  | 0, _, s => s
  | n + 1, fl, s =>
    if fl = 1#1 then sweeps n (changed A cc s.1 s.2) (sweepCol A cr s.1 s.2, sweepRow A cc s.1 s.2) else s

end Loop

/-! ## The results -/

section Results
variable (x0 : Vec F S4096x6 .f32) (x1 : Vec F S6x4096 .f32) (x2 : Vec F S4096x5 .f32) (x3 : Vec F S5x4096 .f32)

/-- The labels that the loop ends with. -/
def finalLabels : Vec F S4096x1 .f32 × Vec F S1x4096 .f32 :=
  sweeps (adj x0 x1 x2 x3) (coreCol x0 x1 x2 x3) (coreRow x0 x1 x2 x3) 20 1#1
    (k0_pay1 (k0_pay26 (F := F)), k0_pay2 (F := F))
/-- The per-cluster feature sums over the bands below `k`, at the label row `lr`. -/
def featUpTo (lr : Vec F S1x4096 .f32) : ℕ → FVec F S4096x4 .f32 :=
  upTo (fun t s => k0_pay5 s (lanes lr t) (bandFeat x0 t)) (k0_pay4 (F := F))

/-- One band more of features. -/
theorem featUpTo_succ (lr : Vec F S1x4096 .f32) (t : Fin 16) :
    featUpTo x0 lr (t.val + 1) = k0_pay5 (featUpTo x0 lr t.val) (lanes lr t) (bandFeat x0 t) := upTo_succ _ _ t

/-- The label block. -/
def outLabels : IVec S1x4096 32 := k0_pay6 (finalLabels x0 x1 x2 x3).2
/-- The class block. -/
def outClass : FVec F S4096x1 .f32 := k0_pay3 x2
/-- The feature block. -/
def outFeat : FVec F S4096x4 .f32 := featUpTo x0 (finalLabels x0 x1 x2 x3).2 16

end Results

end Cert.KernelIdeal.Run

end
-- ==== Proof.KI.Access.lean ====
/-
  What the kernel's loads read and its stores leave, band by band: a load at a band's offset is that band (`Model.lean`
  `band`, `bandCol`, `bandFeat`, `lanes`, `rowAt`), and a store of a band changes that band's rows alone.
-/
module

public import proofs.«01_k».proof.Proof.KI.Model
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe

variable {F : FTy → Type} [FloatOps F]

/-! ## Any rectangle of a whole buffer -/

section Any
variable (b : Ref sig .tc) (r : Rect b.ty.shape) (f : b.ty.Contents (Elt F))

/-- A load reads the buffer at the rectangle's places. -/
theorem read_at (x : r.shape.Idx) : ((Memref.whole b).access r).read (Elt F) f x = f (r.emb x) := rfl

/-- A store leaves its value at the rectangle's places; -/
theorem write_at (w : r.shape.Idx → Elt F b.ty.elt) (x : r.shape.Idx) :
    ((Memref.whole b).access r).write (Elt F) f w Finset.univ (r.emb x) = w x :=
  View.write_emb_of_mem (v := (Memref.whole b).access r) (Val := Elt F) f w (Finset.mem_univ x)

/-- elsewhere it changes nothing. -/
theorem write_off (w : r.shape.Idx → Elt F b.ty.elt) (y : b.ty.shape.Idx) (h : y ∉ r.set) :
    ((Memref.whole b).access r).write (Elt F) f w Finset.univ y = f y := by
  refine View.write_of_not_mem (v := (Memref.whole b).access r) (Val := Elt F) f w Finset.univ ?_
  intro hy
  obtain ⟨x, -, hx⟩ := Finset.mem_map.1 hy
  exact h (hx ▸ (Rect.map_emb_univ r ▸ Finset.mem_map_of_mem _ (Finset.mem_univ x)))

end Any

/-- Two places of a shape with the same coordinates are the same. -/
theorem emb_eq {s : Shape} {r : Rect s} {x : r.shape.Idx} {y : s.Idx} (h : ∀ a, (r.emb x a).val = (y a).val) : r.emb x = y :=
  funext fun a => Fin.ext (h a)

/-! ## Bands of rows -/

section Rows
variable {n m o₁ : ℕ} (t : ℕ) (off : Fin 2 → ℕ) (hoff : off = ![256 * t, o₁])
  (inb : ∀ a, off a + (⟨2, ![256, m]⟩ : Shape).size a ≤ (⟨2, ![4096, n]⟩ : Shape).size a)

include hoff in
/-- Place `x` of the rectangle at band `t` and column `o₁` is row `256 t + x` and column `o₁ + x`. -/
theorem emb_rows (x : (⟨2, ![256, m]⟩ : Shape).Idx) (i : Fin 4096) (j : Fin n) (hi : i.val = 256 * t + (x 0).val)
    (hj : j.val = o₁ + (x 1).val) :
    (Rect.unit (s := ⟨2, ![4096, n]⟩) off (⟨2, ![256, m]⟩ : Shape).size inb).emb x = ix2 i j := by
  subst hoff
  refine emb_eq (fun a => ?_)
  rw [Rect.emb_apply]
  rcases a with ⟨_ | _ | a, ha⟩
  · exact (show 256 * t + 1 * (x 0).val = i.val by omega)
  · exact (show o₁ + 1 * (x 1).val = j.val by omega)
  · exact absurd (show a + 2 < 2 from ha) (by omega)

include hoff in
/-- A row outside band `t` is outside the rectangle. -/
theorem off_rows (y : (⟨2, ![4096, n]⟩ : Shape).Idx) (h : (y 0).val / 256 ≠ t) :
    y ∉ (Rect.unit (s := ⟨2, ![4096, n]⟩) off (⟨2, ![256, m]⟩ : Shape).size inb).set := by
  subst hoff
  intro hy
  have h0 := (Rect.mem_set_unit.1 hy) 0
  have h1 : 256 * t ≤ (y 0).val := h0.1
  have h2 : (y 0).val < 256 * t + 256 := h0.2
  omega

end Rows

/-! ## Trips and bands -/

/-- The three loops have sixteen trips. -/
theorem trips1 : k0_t1_loop.trips = 16 := by decide
theorem trips2 : k0_t2_loop.trips = 16 := by decide
theorem trips3 : k0_t3_loop.trips = 16 := by decide

/-- The band of a trip. -/
abbrev b1 (t : Fin k0_t1_loop.trips) : Fin 16 := Fin.cast trips1 t
abbrev b2 (t : Fin k0_t2_loop.trips) : Fin 16 := Fin.cast trips2 t
abbrev b3 (t : Fin k0_t3_loop.trips) : Fin 16 := Fin.cast trips3 t

/-! ## The loads of a trip -/

section Loads
variable (x0 : Vec F S4096x6 .f32) (x1 : Vec F S6x4096 .f32) (x2 : Vec F S4096x5 .f32)

theorem load_x (t : Fin k0_t1_loop.trips) :
    ((Memref.whole cc0_stg0_0).access (Rect.unit (s := S4096x6) (k0_off1 t) S256x1.size (k0_off1_inb t))).read (Elt F) x0
      = bandCol x0 (b1 t) 1 := by
  funext x
  exact congrArg x0 (emb_rows t.val _ (k0_off1_eq t) _ x (pt (b1 t) (x 0)) 1 rfl (by have := idx2_lt1 x; show 1 = 1 + (x 1).val; omega))
theorem load_y (t : Fin k0_t1_loop.trips) :
    ((Memref.whole cc0_stg0_0).access (Rect.unit (s := S4096x6) (k0_off2 t) S256x1.size (k0_off2_inb t))).read (Elt F) x0
      = bandCol x0 (b1 t) 2 := by
  funext x
  exact congrArg x0 (emb_rows t.val _ (k0_off2_eq t) _ x (pt (b1 t) (x 0)) 2 rfl (by have := idx2_lt1 x; show 2 = 2 + (x 1).val; omega))
theorem load_z (t : Fin k0_t1_loop.trips) :
    ((Memref.whole cc0_stg0_0).access (Rect.unit (s := S4096x6) (k0_off3 t) S256x1.size (k0_off3_inb t))).read (Elt F) x0
      = bandCol x0 (b1 t) 3 := by
  funext x
  exact congrArg x0 (emb_rows t.val _ (k0_off3_eq t) _ x (pt (b1 t) (x 0)) 3 rfl (by have := idx2_lt1 x; show 3 = 3 + (x 1).val; omega))
theorem load_b (t : Fin k0_t1_loop.trips) :
    ((Memref.whole cc0_stg0_0).access (Rect.unit (s := S4096x6) (k0_off5 t) S256x1.size (k0_off5_inb t))).read (Elt F) x0
      = bandCol x0 (b1 t) 0 := by
  funext x
  exact congrArg x0 (emb_rows t.val _ (k0_off5_eq t) _ x (pt (b1 t) (x 0)) 0 rfl (by have := idx2_lt1 x; show 0 = 0 + (x 1).val; omega))
theorem load_s (t : Fin k0_t1_loop.trips) :
    ((Memref.whole cc0_stg2_0).access (Rect.unit (s := S4096x5) (k0_off4 t) S256x5.size (k0_off4_inb t))).read (Elt F) x2
      = band x2 (b1 t) := by
  funext x
  exact congrArg x2 (emb_rows t.val _ (k0_off4_eq t) _ x (pt (b1 t) (x 0)) (x 1) rfl (Nat.zero_add _).symm)
theorem load_adj (A : IVec S4096x4096 8) (t : Fin k0_t2_loop.trips) :
    ((Memref.whole cc0_scratch0).access (Rect.unit (s := S4096x4096) (k0_off8 t) S256x4096.size (k0_off8_inb t))).read (Elt F) A
      = band A (b2 t) := by
  funext x
  exact congrArg A (emb_rows t.val _ (k0_off8_eq t) _ x (pt (b2 t) (x 0)) (x 1) rfl (Nat.zero_add _).symm)
theorem load_lab (l : Vec F S4096x1 .f32) (t : Fin k0_t2_loop.trips) :
    ((Memref.whole cc0_scratch3).access (Rect.unit (s := S4096x1) (k0_off9 t) S256x1.size (k0_off9_inb t))).read (Elt F) l
      = band l (b2 t) := by
  funext x
  exact congrArg l (emb_rows t.val _ (k0_off9_eq t) _ x (pt (b2 t) (x 0)) (x 1) rfl (Nat.zero_add _).symm)
theorem load_core (l : Vec F S4096x1 .f32) (t : Fin k0_t2_loop.trips) :
    ((Memref.whole cc0_scratch1).access (Rect.unit (s := S4096x1) (k0_off9 t) S256x1.size (k0_off9_inb t))).read (Elt F) l
      = band l (b2 t) := by
  funext x
  exact congrArg l (emb_rows t.val _ (k0_off9_eq t) _ x (pt (b2 t) (x 0)) (x 1) rfl (Nat.zero_add _).symm)
theorem load_feat (t : Fin k0_t3_loop.trips) :
    ((Memref.whole cc0_stg0_0).access (Rect.unit (s := S4096x6) (k0_off11 t) S256x4.size (k0_off11_inb t))).read (Elt F) x0
      = bandFeat x0 (b3 t) := by
  funext x
  exact congrArg x0 (emb_rows t.val _ (k0_off11_eq t) _ x (pt (b3 t) (x 0)) ⟨1 + (x 1).val, by have := idx2_lt1 x; omega⟩ rfl rfl)
theorem load_lanes (l : Vec F S1x4096 .f32) (t : Fin k0_t3_loop.trips) :
    ((Memref.whole cc0_scratch4).access (Rect.unit (s := S1x4096) (k0_off10 t) S1x256.size (k0_off10_inb t))).read (Elt F) l
      = lanes l (b3 t) := by
  funext x
  refine congrArg l (emb_eq (fun a => ?_))
  rw [Rect.emb_apply]
  have e := k0_off10_eq t
  rcases a with ⟨_ | _ | a, ha⟩
  · have h0 : k0_off10 t 0 = 0 := by rw [e]; rfl
    exact (show k0_off10 t 0 + 1 * (x 0).val = (x 0).val by omega)
  · have h1 : k0_off10 t 1 = 256 * t.val := by rw [e]; rfl
    exact (show k0_off10 t 1 + 1 * (x 1).val = 256 * t.val + (x 1).val by omega)
  · exact absurd (show a + 2 < 2 from ha) (by omega)

/-- A load of one row of the transposed points. -/
theorem load_row (j : Fin 6) (off : Fin 2 → ℕ) (h : off = ![j.val, 0]) (inb : ∀ a, off a + S1x4096.size a ≤ S6x4096.size a) :
    ((Memref.whole cc0_stg1_0).access (Rect.unit (s := S6x4096) off S1x4096.size inb)).read (Elt F) x1 = rowAt x1 j := by
  subst h
  funext x
  refine congrArg x1 (emb_eq (fun a => ?_))
  rw [Rect.emb_apply]
  rcases a with ⟨_ | _ | a, ha⟩
  · have := idx2_lt0 x
    exact (show j.val + 1 * (x 0).val = j.val by omega)
  · exact (show 0 + 1 * (x 1).val = (x 1).val by omega)
  · exact absurd (show a + 2 < 2 from ha) (by omega)

end Loads

/-! ## Whole loads and stores -/

/-- The zero offset, as the loads spell it. -/
theorem zero_off : (![0, 0] : Fin 2 → ℕ) = fun _ => 0 := by
  funext a; rcases a with ⟨_ | _ | a, ha⟩ <;> first | rfl | exact absurd (show a + 2 < 2 from ha) (by omega)

/-- A load of a whole buffer reads its contents. -/
theorem read_whole (b : Ref sig .tc) (off : Fin b.ty.shape.rank → ℕ) (h : off = fun _ => 0)
    (inb : ∀ a, off a + b.ty.shape.size a ≤ b.ty.shape.size a) (f : b.ty.Contents (Elt F)) :
    ((Memref.whole b).access (Rect.unit (s := b.ty.shape) off b.ty.shape.size inb)).read (Elt F) f = f := by
  subst h
  funext x
  refine congrArg f (emb_eq (fun a => ?_))
  rw [Rect.emb_apply]
  exact (show 0 + 1 * (x a).val = (x a).val by omega)

/-- A store of a whole buffer leaves what it stores. -/
theorem write_whole (b : Ref sig .tc) (off : Fin b.ty.shape.rank → ℕ) (h : off = fun _ => 0)
    (inb : ∀ a, off a + b.ty.shape.size a ≤ b.ty.shape.size a) (f : b.ty.Contents (Elt F)) (w : b.ty.shape.Idx → Elt F b.ty.elt) :
    ((Memref.whole b).access (Rect.unit (s := b.ty.shape) off b.ty.shape.size inb)).write (Elt F) f w Finset.univ = w := by
  subst h
  funext y
  have e : (Rect.unit (s := b.ty.shape) (fun _ => 0) b.ty.shape.size inb).emb y = y := by
    refine emb_eq (fun a => ?_)
    rw [Rect.emb_apply]
    exact (show 0 + 1 * (y a).val = (y a).val by omega)
  have h := write_at b (Rect.unit (s := b.ty.shape) (fun _ => 0) b.ty.shape.size inb) f w y
  rwa [e] at h

/-! ### … at each of the kernel's buffers -/

theorem read_s3 (inb) (f : Vec F S5x4096 .f32) :
    ((Memref.whole cc0_stg3_0).access (Rect.unit (s := S5x4096) ![0, 0] S5x4096.size inb)).read (Elt F) f = f :=
  read_whole cc0_stg3_0 _ zero_off inb f
theorem read_s2 (inb) (f : Vec F S4096x5 .f32) :
    ((Memref.whole cc0_stg2_0).access (Rect.unit (s := S4096x5) ![0, 0] S4096x5.size inb)).read (Elt F) f = f :=
  read_whole cc0_stg2_0 _ zero_off inb f
theorem read_core (inb) (f : Vec F S1x4096 .f32) :
    ((Memref.whole cc0_scratch2).access (Rect.unit (s := S1x4096) ![0, 0] S1x4096.size inb)).read (Elt F) f = f :=
  read_whole cc0_scratch2 _ zero_off inb f
theorem read_lab (inb) (f : Vec F S1x4096 .f32) :
    ((Memref.whole cc0_scratch4).access (Rect.unit (s := S1x4096) ![0, 0] S1x4096.size inb)).read (Elt F) f = f :=
  read_whole cc0_scratch4 _ zero_off inb f
theorem write_core (inb) (f w : Vec F S1x4096 .f32) :
    ((Memref.whole cc0_scratch2).access (Rect.unit (s := S1x4096) ![0, 0] S1x4096.size inb)).write (Elt F) f w Finset.univ = w :=
  write_whole cc0_scratch2 _ zero_off inb f w
theorem write_lab (inb) (f w : Vec F S1x4096 .f32) :
    ((Memref.whole cc0_scratch4).access (Rect.unit (s := S1x4096) ![0, 0] S1x4096.size inb)).write (Elt F) f w Finset.univ = w :=
  write_whole cc0_scratch4 _ zero_off inb f w
theorem write_col (inb) (f w : Vec F S4096x1 .f32) :
    ((Memref.whole cc0_scratch3).access (Rect.unit (s := S4096x1) ![0, 0] S4096x1.size inb)).write (Elt F) f w Finset.univ = w :=
  write_whole cc0_scratch3 _ zero_off inb f w
theorem write_o4 (inb) (f w : IVec S1x4096 32) :
    ((Memref.whole cc0_stg4_0).access (Rect.unit (s := S1x4096) ![0, 0] S1x4096.size inb)).write (Elt F) f w Finset.univ = w :=
  write_whole cc0_stg4_0 _ zero_off inb f w
theorem write_o5 (inb) (f w : Vec F S4096x1 .f32) :
    ((Memref.whole cc0_stg5_0).access (Rect.unit (s := S4096x1) ![0, 0] S4096x1.size inb)).write (Elt F) f w Finset.univ = w :=
  write_whole cc0_stg5_0 _ zero_off inb f w
theorem write_o6 (inb) (f w : Vec F S4096x4 .f32) :
    ((Memref.whole cc0_stg6_0).access (Rect.unit (s := S4096x4) ![0, 0] S4096x4.size inb)).write (Elt F) f w Finset.univ = w :=
  write_whole cc0_stg6_0 _ zero_off inb f w

/-! ## Glueing bands -/

section Glue
variable {α : Type} {n : ℕ}

/-- Storing band `t` of `glue B` extends the rows that hold it from the bands below `t` to the bands up to `t`. -/
theorem glue_step {g g' : (⟨2, ![4096, n]⟩ : Shape).Idx → α} (B : Fin 16 → (⟨2, ![256, n]⟩ : Shape).Idx → α) (t : Fin 16)
    (hin : ∀ x : (⟨2, ![256, n]⟩ : Shape).Idx, g' (ix2 (pt t (x 0)) (x 1)) = B t x)
    (hout : ∀ y : (⟨2, ![4096, n]⟩ : Shape).Idx, (y 0).val / 256 ≠ t.val → g' y = g y)
    (h : ∀ y : (⟨2, ![4096, n]⟩ : Shape).Idx, (y 0).val < 256 * t.val → g y = glue B y) :
    ∀ y : (⟨2, ![4096, n]⟩ : Shape).Idx, (y 0).val < 256 * (t.val + 1) → g' y = glue B y := by
  intro y hy
  by_cases hb : (y 0).val / 256 = t.val
  · have e : bandOf (y 0) = t := Fin.ext hb
    have hx := hin (ix2 (placeOf (y 0)) (y 1))
    have ey : (ix2 (pt t ((ix2 (placeOf (y 0)) (y 1) : (⟨2, ![256, n]⟩ : Shape).Idx) 0))
        ((ix2 (placeOf (y 0)) (y 1) : (⟨2, ![256, n]⟩ : Shape).Idx) 1) : (⟨2, ![4096, n]⟩ : Shape).Idx) = y := by
      rw [ValueIdx.eq_ix2 y]
      congr 1
      apply Fin.ext
      show 256 * t.val + (y 0).val % 256 = (y 0).val
      omega
    rw [ey] at hx
    rw [hx, glue, e]
  · rw [hout y hb, h y (by omega)]

/-- With every band stored the array is the glued one. -/
theorem glue_all {g : (⟨2, ![4096, n]⟩ : Shape).Idx → α} (B : Fin 16 → (⟨2, ![256, n]⟩ : Shape).Idx → α)
    (h : ∀ y : (⟨2, ![4096, n]⟩ : Shape).Idx, (y 0).val < 256 * 16 → g y = glue B y) : g = glue B := by
  funext y
  exact h y (idx2_lt0 y)

/-- Rows at and above band `t` untouched: the band itself reads as before. -/
theorem band_of_above {g g₀ : (⟨2, ![4096, n]⟩ : Shape).Idx → α} (t : Fin 16)
    (h : ∀ y : (⟨2, ![4096, n]⟩ : Shape).Idx, 256 * t.val ≤ (y 0).val → g y = g₀ y) : band g t = band g₀ t := by
  funext x
  exact h _ (Nat.le_add_right _ _)

end Glue

end Cert.KernelIdeal.Run

end
-- ==== Proof.KI.Loops.lean ====
/-
  The kernel's counted loops: the loop that builds the adjacency matrix, the column of core flags and the neighbour
  counts band by band, and the loop that sums the features of each cluster band by band.
-/
module

public import proofs.«01_k».proof.Proof.KI.Access
public import Idealize.ShloMosaic.Lib.Pipeline.Frame
public import Idealize.ShloMosaic.Lib.Scf

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: the naturals, the sweeps still allowed. -/
abbrev 𝒱₀ : Variants := Variants.nat

/-- A buffer of core `c` held at `f`. -/
abbrev at_ (c : Dev nD) (b : Ref sig .tc) (f : b.ty.Contents (Elt F)) : sProp 𝕄 :=
  iprop(((c : Thread nD τ).loc b) ↦{fullShare} f)

section T1
variable (c : Dev nD) (bd : Option 𝒱₀.V) (x0 : Vec F S4096x6 .f32) (x1 : Vec F S6x4096 .f32) (x2 : Vec F S4096x5 .f32)
  (x3 : Vec F S5x4096 .f32)

/-- A trip of the first loop at the kernel's buffers. -/
abbrev t1Body : Fin k0_t1_loop.trips → FVec F S1x4096 .f32 → Prog (TpuEff nD τ sig (Elt F) (Λ₀ F) .tc) (FVec F S1x4096 .f32) :=
  k0_t1_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    x3 (rowAt x1 0) (rowAt x1 1) (rowAt x1 2) (rowAt x1 3)

/-- Before trip `k` the bands below `k` of the adjacency matrix and of the column of core flags are stored, and the carried
    value is the neighbour counts over them. -/
def inv1 (k : ℕ) (acc : FVec F S1x4096 .f32) : sProp 𝕄 :=
  iprop(∃ (g7 : IVec S4096x4096 8) (g8 : Vec F S4096x1 .f32), at_ c cc0_stg0_0 x0 ∗ at_ c cc0_stg2_0 x2 ∗ at_ c cc0_scratch0 g7 ∗ at_ c cc0_scratch1 g8
    ∗ ⌜acc = counts x0 x1 x2 x3 k ∧ (∀ y, (y 0).val < 256 * k → g7 y = adj x0 x1 x2 x3 y)
      ∧ (∀ y, (y 0).val < 256 * k → g8 y = coreCol x0 x1 x2 x3 y)⌝)

/-- A trip keeps the invariant. -/
theorem inv1_step (E : Set ℕ) (t : Fin k0_t1_loop.trips) (acc : FVec F S1x4096 .f32) :
    inv1 c x0 x1 x2 x3 t.val acc
      ⊢ wp frame (wpE (defs₀ (F := F)) 𝒱₀ (c : Thread nD τ) bd) E (t1Body x1 x3 t acc) (inv1 c x0 x1 x2 x3 (t.val + 1)) := by
  unfold inv1
  iintro ⟨%g7, %g8, H0, H2, H7, H8, %h⟩
  obtain ⟨hacc, h7, h8⟩ := h
  unfold t1Body k0_t1_body
  simp only [k0_part1_eq_skeleton]; unfold k0_part1_skel
  simp only [Prog.lift, Prog.bind_op, Prog.bind_ret, Prog.pure_eq_ret]
  iapply (wp_load_rect 𝒱₀ (c : Thread nD τ) bd E (m := Memref.whole cc0_stg0_0)
    (r := Rect.unit (s := S4096x6) (k0_off1 t) S256x1.size (k0_off1_inb t)) (Finset.subset_univ _)) $$ H0; iintro H0
  iapply (wp_load_rect 𝒱₀ (c : Thread nD τ) bd E (m := Memref.whole cc0_stg0_0)
    (r := Rect.unit (s := S4096x6) (k0_off2 t) S256x1.size (k0_off2_inb t)) (Finset.subset_univ _)) $$ H0; iintro H0
  iapply (wp_load_rect 𝒱₀ (c : Thread nD τ) bd E (m := Memref.whole cc0_stg0_0)
    (r := Rect.unit (s := S4096x6) (k0_off3 t) S256x1.size (k0_off3_inb t)) (Finset.subset_univ _)) $$ H0; iintro H0
  iapply (wp_load_rect 𝒱₀ (c : Thread nD τ) bd E (m := Memref.whole cc0_stg2_0)
    (r := Rect.unit (s := S4096x5) (k0_off4 t) S256x5.size (k0_off4_inb t)) (Finset.subset_univ _)) $$ H2; iintro H2
  iapply (wp_load_rect 𝒱₀ (c : Thread nD τ) bd E (m := Memref.whole cc0_stg0_0)
    (r := Rect.unit (s := S4096x6) (k0_off5 t) S256x1.size (k0_off5_inb t)) (Finset.subset_univ _)) $$ H0; iintro H0
  rw [load_x, load_y, load_z, load_s, load_b]
  iapply (wp_load_rect 𝒱₀ (c : Thread nD τ) bd E (m := Memref.whole cc0_scratch0)
    (r := Rect.unit (s := S4096x4096) (k0_off6 t) S256x4096.size (k0_off6_inb t)) (Finset.subset_univ _)) $$ H7; iintro H7
  iapply (wp_store 𝒱₀ (c : Thread nD τ) bd E (m := Memref.whole cc0_scratch0)
    (r := Rect.unit (s := S4096x4096) (k0_off6 t) S256x4096.size (k0_off6_inb t)) (Mk := Finset.univ) (Finset.subset_univ _)) $$ H7; iintro H7
  iapply (wp_load_rect 𝒱₀ (c : Thread nD τ) bd E (m := Memref.whole cc0_scratch1)
    (r := Rect.unit (s := S4096x1) (k0_off7 t) S256x1.size (k0_off7_inb t)) (Finset.subset_univ _)) $$ H8; iintro H8
  iapply (wp_store 𝒱₀ (c : Thread nD τ) bd E (m := Memref.whole cc0_scratch1)
    (r := Rect.unit (s := S4096x1) (k0_off7 t) S256x1.size (k0_off7_inb t)) (Mk := Finset.univ) (Finset.subset_univ _)) $$ H8; iintro H8
  rw [wp_ret]; imodintro
  iexists _; iexists _
  isplitl [H0]; · iexact H0
  isplitl [H2]; · iexact H2
  isplitl [H7]; · iexact H7
  isplitl [H8]; · iexact H8
  ipureintro
  refine ⟨?_, ?_, ?_⟩
  · rw [hacc]; exact (counts_succ x0 x1 x2 x3 (b1 t)).symm
  · refine glue_step (adjBytes x0 x1 x2 x3) (b1 t) (fun x => ?_) (fun y hy => ?_) h7
    · have e := emb_rows t.val _ (k0_off6_eq t) (k0_off6_inb t) x (pt (b1 t) (x 0)) (x 1) rfl (Nat.zero_add _).symm
      exact (congrArg _ e.symm).trans (write_at cc0_scratch0 (Rect.unit (s := S4096x4096) (k0_off6 t) S256x4096.size (k0_off6_inb t)) g7 _ x)
    · exact write_off cc0_scratch0 _ g7 _ y (off_rows t.val _ (k0_off6_eq t) (k0_off6_inb t) y hy)
  · refine glue_step (fun t => k0_pay23 (F := F) (adjBits x0 x1 x2 x3 t)) (b1 t) (fun x => ?_) (fun y hy => ?_) h8
    · have e := emb_rows t.val _ (k0_off7_eq t) (k0_off7_inb t) x (pt (b1 t) (x 0)) (x 1) rfl (Nat.zero_add _).symm
      exact (congrArg _ e.symm).trans (write_at cc0_scratch1 (Rect.unit (s := S4096x1) (k0_off7 t) S256x1.size (k0_off7_inb t)) g8 _ x)
    · exact write_off cc0_scratch1 _ g8 _ y (off_rows t.val _ (k0_off7_eq t) (k0_off7_inb t) y hy)

/-- The whole first loop: from any adjacency buffer and column of core flags to those of the input. -/
theorem loop1 (E : Set ℕ) {β : Type} {kk : FVec F S1x4096 .f32 → Prog (TpuEff nD τ sig (Elt F) (Λ₀ F) .tc) β} {Q : β → sProp 𝕄}
    (g7 : IVec S4096x4096 8) (g8 : Vec F S4096x1 .f32) :
    iprop(at_ c cc0_stg0_0 x0 ∗ at_ c cc0_stg2_0 x2 ∗ at_ c cc0_scratch0 g7 ∗ at_ c cc0_scratch1 g8)
      ⊢ iprop(((at_ c cc0_stg0_0 x0 ∗ at_ c cc0_stg2_0 x2 ∗ at_ c cc0_scratch0 (adj x0 x1 x2 x3) ∗ at_ c cc0_scratch1 (coreCol x0 x1 x2 x3))
          -∗ wp frame (wpE (defs₀ (F := F)) 𝒱₀ (c : Thread nD τ) bd) E (kk (counts x0 x1 x2 x3 16)) Q)
        -∗ wp frame (wpE (defs₀ (F := F)) 𝒱₀ (c : Thread nD τ) bd) E
            (Scf.Loop.for k0_t1_loop k0_t1_ok (k0_pay20 (F := F)) (t1Body x1 x3) >>= kk) Q) := by
  iintro ⟨H0, H2, H7, H8⟩ HK
  iapply (Scf.wp_for_bind frame (wpE (defs₀ (F := F)) 𝒱₀ (c : Thread nD τ) bd) E k0_t1_loop.lb k0_t1_loop.ub k0_t1_loop.st k0_t1_ok
    (k0_pay20 (F := F)) (t1Body x1 x3) (fun k acc => inv1 c x0 x1 x2 x3 k acc) (fun t acc => inv1_step c bd x0 x1 x2 x3 E t acc)) $$ [H0 H2 H7 H8]
  · unfold inv1
    iexists g7; iexists g8
    isplitl [H0]; · iexact H0
    isplitl [H2]; · iexact H2
    isplitl [H7]; · iexact H7
    isplitl [H8]; · iexact H8
    ipureintro
    exact ⟨rfl, fun y hy => absurd hy (by omega), fun y hy => absurd hy (by omega)⟩
  · iintro %acc HI
    unfold inv1
    icases HI with ⟨%f7, %f8, H0, H2, H7, H8, %h⟩
    obtain ⟨hacc, h7, h8⟩ := h
    have hT : Scf.trips k0_t1_loop.lb k0_t1_loop.ub k0_t1_loop.st = 16 := trips1
    rw [hT] at hacc h7 h8
    obtain rfl := glue_all _ h7
    obtain rfl := glue_all _ h8
    subst hacc
    iapply HK
    isplitl [H0]; · iexact H0
    isplitl [H2]; · iexact H2
    isplitl [H7]; · iexact H7
    iexact H8

end T1

section T3
variable (c : Dev nD) (bd : Option 𝒱₀.V) (x0 : Vec F S4096x6 .f32) (lr : Vec F S1x4096 .f32)

/-- A trip of the feature loop at the kernel's buffers. -/
abbrev t3Body : Fin k0_t3_loop.trips → FVec F S4096x4 .f32 → Prog (TpuEff nD τ sig (Elt F) (Λ₀ F) .tc) (FVec F S4096x4 .f32) :=
  k0_t3_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)

/-- The whole feature loop. -/
theorem loop3 (E : Set ℕ) {β : Type} {kk : FVec F S4096x4 .f32 → Prog (TpuEff nD τ sig (Elt F) (Λ₀ F) .tc) β} {Q : β → sProp 𝕄} :
    iprop(at_ c cc0_stg0_0 x0 ∗ at_ c cc0_scratch4 lr)
      ⊢ iprop(((at_ c cc0_stg0_0 x0 ∗ at_ c cc0_scratch4 lr)
          -∗ wp frame (wpE (defs₀ (F := F)) 𝒱₀ (c : Thread nD τ) bd) E (kk (featUpTo x0 lr 16)) Q)
        -∗ wp frame (wpE (defs₀ (F := F)) 𝒱₀ (c : Thread nD τ) bd) E
            (Scf.Loop.for k0_t3_loop k0_t3_ok (k0_pay4 (F := F)) t3Body >>= kk) Q) := by
  iintro ⟨H0, H11⟩ HK
  iapply (Scf.wp_for_bind frame (wpE (defs₀ (F := F)) 𝒱₀ (c : Thread nD τ) bd) E k0_t3_loop.lb k0_t3_loop.ub k0_t3_loop.st k0_t3_ok
    (k0_pay4 (F := F)) t3Body
    (fun k acc => iprop(at_ c cc0_stg0_0 x0 ∗ at_ c cc0_scratch4 lr ∗ ⌜acc = featUpTo x0 lr k⌝)) (fun t acc => ?step)) $$ [H0 H11]
  case step =>
    iintro ⟨H0, H11, %hacc⟩
    unfold t3Body k0_t3_body
    simp only [Prog.lift, Prog.bind_op, Prog.bind_ret, Prog.pure_eq_ret]
    iapply (wp_load_rect 𝒱₀ (c : Thread nD τ) bd E (m := Memref.whole cc0_scratch4)
      (r := Rect.unit (s := S1x4096) (k0_off10 t) S1x256.size (k0_off10_inb t)) (Finset.subset_univ _)) $$ H11; iintro H11
    iapply (wp_load_rect 𝒱₀ (c : Thread nD τ) bd E (m := Memref.whole cc0_stg0_0)
      (r := Rect.unit (s := S4096x6) (k0_off11 t) S256x4.size (k0_off11_inb t)) (Finset.subset_univ _)) $$ H0; iintro H0
    rw [load_lanes, load_feat]
    rw [wp_ret]; imodintro
    isplitl [H0]; · iexact H0
    isplitl [H11]; · iexact H11
    ipureintro
    rw [hacc]; exact (featUpTo_succ x0 lr (b3 t)).symm
  · isplitl [H0]; · iexact H0
    isplitl [H11]; · iexact H11
    ipureintro; rfl
  · iintro %acc ⟨H0, H11, %hacc⟩
    have hT : Scf.trips k0_t3_loop.lb k0_t3_loop.ub k0_t3_loop.st = 16 := trips3
    rw [hT] at hacc
    subst hacc
    iapply HK
    isplitl [H0]; · iexact H0
    iexact H11

end T3

end Cert.KernelIdeal.Run

end
-- ==== Proof.KI.While.lean ====
/-
  The kernel's label loop. One trip sweeps the sixteen bands, storing each band of the label column and carrying the
  smallest label seen in each lane, then stores the label row; the loop runs at most twenty trips and stops when a trip
  changed nothing. Its label is specified at the number of trips still allowed and proved by induction on it.
-/
module

public import proofs.«01_k».proof.Proof.KI.Loops

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (A : IVec S4096x4096 8) (cc : Vec F S4096x1 .f32) (cr : Vec F S1x4096 .f32)

/-- The five buffers of the label loop: the core row, the adjacency matrix and the core column, and the labels `s`. -/
def held (s : Vec F S4096x1 .f32 × Vec F S1x4096 .f32) : sProp 𝕄 :=
  iprop(at_ c cc0_scratch2 cr ∗ at_ c cc0_scratch4 s.2 ∗ at_ c cc0_scratch0 A ∗ at_ c cc0_scratch3 s.1 ∗ at_ c cc0_scratch1 cc)

/-- The label's specification with `n` sweeps allowed: the labels go from `s` to those after the sweeps. -/
def spec (n : ℕ) (fl : BitVec 1) (s : Vec F S4096x1 .f32 × Vec F S1x4096 .f32) : sWPT 𝕄 (BitVec 32 × BitVec 1) := do
  sWPT.consume (held c A cc cr s)
  let r ← sWPT.arbitrary
  sWPT.produce (held c A cc cr (sweeps A cc cr n fl s))
  pure r

theorem spec_apply (n : ℕ) (fl : BitVec 1) (s : Vec F S4096x1 .f32 × Vec F S1x4096 .f32) (K : BitVec 32 × BitVec 1 → sProp 𝕄) :
    spec c A cc cr n fl s K
      = iprop(held c A cc cr s ∗ ∀ r : BitVec 32 × BitVec 1, held c A cc cr (sweeps A cc cr n fl s) -∗ K r) := rfl

/-- The loop's test at the counter `20 - n`: a trip is allowed when `n` is not zero and the flag is set. -/
theorem test_zero (fl : BitVec 1) : Scalar.andi (Scalar.cmpi .slt (BitVec.ofNat 32 (20 - 0)) 20#32) fl = 0#1 := by
  revert fl; decide
theorem test_succ (n : ℕ) (h : n < 20) (fl : BitVec 1) :
    Scalar.andi (Scalar.cmpi .slt (BitVec.ofNat 32 (20 - (n + 1))) 20#32) fl = fl := by
  have : ∀ n : Fin 20, ∀ fl : BitVec 1, Scalar.andi (Scalar.cmpi .slt (BitVec.ofNat 32 (20 - (n.val + 1))) 20#32) fl = fl := by decide
  exact this ⟨n, h⟩ fl
theorem next_counter (n : ℕ) (h : n < 20) : Scalar.addi (BitVec.ofNat 32 (20 - (n + 1))) 1#32 = BitVec.ofNat 32 (20 - n) := by
  have : ∀ n : Fin 20, Scalar.addi (BitVec.ofNat 32 (20 - (n.val + 1))) 1#32 = BitVec.ofNat 32 (20 - n.val) := by decide
  exact this ⟨n, h⟩

/-- Before trip `k` of the sweep the bands below `k` of the label column are the new ones, the others still the old, and
    the carried value is the smallest label in each lane over the bands below `k`. -/
def inv2 (lc : Vec F S4096x1 .f32) (lr : Vec F S1x4096 .f32) (k : ℕ) (acc : FVec F S1x4096 .f32) : sProp 𝕄 :=
  iprop(∃ g : Vec F S4096x1 .f32, at_ c cc0_scratch0 A ∗ at_ c cc0_scratch3 g ∗ at_ c cc0_scratch1 cc
    ∗ ⌜acc = laneMin A cc lc k ∧ (∀ y, (y 0).val < 256 * k → g y = sweepCol A cr lc lr y) ∧ (∀ y, 256 * k ≤ (y 0).val → g y = lc y)⌝)

set_option maxHeartbeats 1000000 in
/-- The label's body meets its specification. -/
theorem spec_le (E : Set ℕ) : ∀ n, n ≤ 20 → ∀ fl s K, spec c A cc cr n fl s K
    ⊢ wp frame (wpE (defs₀ (F := F)) 𝒱₀ (c : Thread nD τ) (some n)) E
        (defs₀ (F := F) .tc 1 ⟨Memref.whole cc0_scratch2, Memref.isWhole_whole _, Memref.whole cc0_scratch4, Memref.isWhole_whole _,
          Memref.whole cc0_scratch0, Memref.isWhole_whole _, Memref.whole cc0_scratch3, Memref.isWhole_whole _,
          Memref.whole cc0_scratch1, Memref.isWhole_whole _, BitVec.ofNat 32 (20 - n), fl⟩) K := by
  intro n
  induction n with
  | zero =>
    intro _ fl s K
    rw [spec_apply]
    show _ ⊢ wp frame (wpE (defs₀ (F := F)) 𝒱₀ (c : Thread nD τ) (some 0)) E
      (cc0_while1 (Memref.whole cc0_scratch2) (Memref.isWhole_whole _) (Memref.whole cc0_scratch4) (Memref.isWhole_whole _)
        (Memref.whole cc0_scratch0) (Memref.isWhole_whole _) (Memref.whole cc0_scratch3) (Memref.isWhole_whole _)
        (Memref.whole cc0_scratch1) (Memref.isWhole_whole _) (BitVec.ofNat 32 (20 - 0)) fl) K
    simp only [cc0_while1_eq_skeleton]; unfold cc0_while1_skel
    have h01 : ¬ (0#1 = 1#1) := by decide
    simp only [test_zero, h01, ↓reduceIte, Prog.pure_eq_ret]
    iintro ⟨H, Hk⟩
    rw [wp_ret]; imodintro
    iapply Hk
    iexact H
  | succ n ih =>
    intro hn fl s K
    rw [spec_apply]
    show _ ⊢ wp frame (wpE (defs₀ (F := F)) 𝒱₀ (c : Thread nD τ) (some (n + 1))) E
      (cc0_while1 (Memref.whole cc0_scratch2) (Memref.isWhole_whole _) (Memref.whole cc0_scratch4) (Memref.isWhole_whole _)
        (Memref.whole cc0_scratch0) (Memref.isWhole_whole _) (Memref.whole cc0_scratch3) (Memref.isWhole_whole _)
        (Memref.whole cc0_scratch1) (Memref.isWhole_whole _) (BitVec.ofNat 32 (20 - (n + 1))) fl) K
    simp only [cc0_while1_eq_skeleton]; unfold cc0_while1_skel
    simp only [test_succ n hn]
    by_cases hfl : fl = 1#1
    swap
    · simp only [hfl, ↓reduceIte, Prog.pure_eq_ret]
      iintro ⟨H, Hk⟩
      rw [wp_ret]; imodintro
      iapply Hk
      rw [sweeps, if_neg hfl]
      iexact H
    obtain ⟨lc, lr⟩ := s
    simp only [hfl, ↓reduceIte, Prog.lift, Prog.bind_op, Prog.bind_ret, Prog.pure_eq_ret]
    unfold held
    iintro ⟨⟨H9, H11, H7, H10, H8⟩, Hk⟩
    iapply (wp_load_rect 𝒱₀ (c : Thread nD τ) (some (n + 1)) E (m := Memref.whole cc0_scratch2)
      (r := Rect.unit (s := S1x4096) ![0, 0] S1x4096.size inb_S1x4096_S1x4096_0_0) (Finset.subset_univ _)) $$ H9; iintro H9
    iapply (wp_load_rect 𝒱₀ (c : Thread nD τ) (some (n + 1)) E (m := Memref.whole cc0_scratch4)
      (r := Rect.unit (s := S1x4096) ![0, 0] S1x4096.size inb_S1x4096_S1x4096_0_0) (Finset.subset_univ _)) $$ H11; iintro H11
    rw [read_core, read_lab]
    iapply (Scf.wp_for_bind frame (wpE (defs₀ (F := F)) 𝒱₀ (c : Thread nD τ) (some (n + 1))) E k0_t2_loop.lb k0_t2_loop.ub k0_t2_loop.st k0_t2_ok
      (k0_pay7 (F := F)) _ (fun k acc => inv2 c A cc cr lc lr k acc) (fun t acc => ?step)) $$ [H7 H10 H8]
    case step =>
      unfold inv2
      iintro ⟨%g, H7, H10, H8, %h⟩
      obtain ⟨hacc, hlo, hhi⟩ := h
      iapply (wp_load_rect 𝒱₀ (c : Thread nD τ) (some (n + 1)) E (m := Memref.whole cc0_scratch0)
        (r := Rect.unit (s := S4096x4096) (k0_off8 t) S256x4096.size (k0_off8_inb t)) (Finset.subset_univ _)) $$ H7; iintro H7
      iapply (wp_load_rect 𝒱₀ (c : Thread nD τ) (some (n + 1)) E (m := Memref.whole cc0_scratch3)
        (r := Rect.unit (s := S4096x1) (k0_off9 t) S256x1.size (k0_off9_inb t)) (Finset.subset_univ _)) $$ H10; iintro H10
      iapply (wp_load_rect 𝒱₀ (c : Thread nD τ) (some (n + 1)) E (m := Memref.whole cc0_scratch1)
        (r := Rect.unit (s := S4096x1) (k0_off9 t) S256x1.size (k0_off9_inb t)) (Finset.subset_univ _)) $$ H8; iintro H8
      iapply (wp_load_rect 𝒱₀ (c : Thread nD τ) (some (n + 1)) E (m := Memref.whole cc0_scratch3)
        (r := Rect.unit (s := S4096x1) (k0_off9 t) S256x1.size (k0_off9_inb t)) (Finset.subset_univ _)) $$ H10; iintro H10
      rw [load_adj, load_lab, load_core]
      rw [band_of_above (b2 t) hhi]
      iapply (wp_store 𝒱₀ (c : Thread nD τ) (some (n + 1)) E (m := Memref.whole cc0_scratch3)
        (r := Rect.unit (s := S4096x1) (k0_off9 t) S256x1.size (k0_off9_inb t)) (Mk := Finset.univ) (Finset.subset_univ _)) $$ H10; iintro H10
      rw [wp_ret]; imodintro
      iexists _
      isplitl [H7]; · iexact H7
      isplitl [H10]; · iexact H10
      isplitl [H8]; · iexact H8
      ipureintro
      refine ⟨?_, ?_, fun y hy => ?_⟩
      · rw [hacc]; exact (laneMin_succ A cc lc (b2 t)).symm
      · refine glue_step (fun t => k0_pay9 cr lr (band A t) (band lc t)) (b2 t) (fun x => ?_) (fun y hy => ?_) hlo
        · have e := emb_rows t.val _ (k0_off9_eq t) (k0_off9_inb t) x (pt (b2 t) (x 0)) (x 1) rfl (Nat.zero_add _).symm
          exact (congrArg _ e.symm).trans (write_at cc0_scratch3 (Rect.unit (s := S4096x1) (k0_off9 t) S256x1.size (k0_off9_inb t)) g _ x)
        · exact write_off cc0_scratch3 _ g _ y (off_rows t.val _ (k0_off9_eq t) (k0_off9_inb t) y hy)
      · rw [← hhi y (by omega)]
        exact write_off cc0_scratch3 _ g _ y (off_rows t.val _ (k0_off9_eq t) (k0_off9_inb t) y (by omega))
    · unfold inv2
      iexists lc
      isplitl [H7]; · iexact H7
      isplitl [H10]; · iexact H10
      isplitl [H8]; · iexact H8
      ipureintro
      exact ⟨rfl, fun y hy => absurd hy (by omega), fun y _ => rfl⟩
    iintro %acc HI
    unfold inv2
    icases HI with ⟨%g, H7, H10, H8, %h⟩
    obtain ⟨hacc, hlo, -⟩ := h
    have hT : Scf.trips k0_t2_loop.lb k0_t2_loop.ub k0_t2_loop.st = 16 := trips2
    rw [hT] at hacc hlo
    obtain rfl := glue_all _ hlo
    subst hacc
    iapply (wp_load_rect 𝒱₀ (c : Thread nD τ) (some (n + 1)) E (m := Memref.whole cc0_scratch4)
      (r := Rect.unit (s := S1x4096) ![0, 0] S1x4096.size inb_S1x4096_S1x4096_0_0) (Finset.subset_univ _)) $$ H11; iintro H11
    iapply (wp_load_rect 𝒱₀ (c : Thread nD τ) (some (n + 1)) E (m := Memref.whole cc0_scratch4)
      (r := Rect.unit (s := S1x4096) ![0, 0] S1x4096.size inb_S1x4096_S1x4096_0_0) (Finset.subset_univ _)) $$ H11; iintro H11
    rw [read_lab]
    iapply (wp_store 𝒱₀ (c : Thread nD τ) (some (n + 1)) E (m := Memref.whole cc0_scratch4)
      (r := Rect.unit (s := S1x4096) ![0, 0] S1x4096.size inb_S1x4096_S1x4096_0_0) (Mk := Finset.univ) (Finset.subset_univ _)) $$ H11; iintro H11
    rw [write_lab, next_counter n hn]
    iapply (wp_call_spec 𝒱₀ (c : Thread nD τ) (some (n + 1)) E
      (spec c A cc cr n (changed A cc lc lr) (sweepCol A cr lc lr, sweepRow A cc lc lr)) n
      (fun u hu => by cases hu; exact Nat.lt_succ_self n)
      (ih (by omega) (changed A cc lc lr) (sweepCol A cr lc lr, sweepRow A cc lc lr)))
    rw [spec_apply]; unfold held
    isplitl [H7 H10 H8 H9 H11]
    · isplitl [H9]; · iexact H9
      isplitl [H11]; · iexact H11
      isplitl [H7]; · iexact H7
      isplitl [H10]; · iexact H10
      iexact H8
    iintro %r H
    rw [wp_ret]; imodintro
    iapply Hk
    rw [sweeps, if_pos rfl]
    iexact H

end Cert.KernelIdeal.Run

end
-- ==== Proof.KI.Body.lean ====
/-
  The kernel body run on its staging buffers and scratch: the body holding the four input blocks leaves the three result
  blocks of `Model.lean`; with it the pipeline's proof data and body obligation.
-/
module

public import proofs.«01_k».proof.Proof.KI.While
public import proofs.«01_k».proof.Proof.Gen.KernelIdeal.Launch
public import proofs.«01_k».proof.Proof.Gen.KernelIdeal.Points
public import Idealize.ShloMosaic.Lib.Pipeline.FrameSuffix
public import Idealize.ShloMosaic.Lib.Pipeline.FrameBody
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

section Body
variable (c : Dev nD) (x0 : Vec F S4096x6 .f32) (x1 : Vec F S6x4096 .f32) (x2 : Vec F S4096x5 .f32) (x3 : Vec F S5x4096 .f32)

/-- The body's buffers at the input blocks and anything else. -/
def bufsIn (g4 : IVec S1x4096 32) (g5 : Vec F S4096x1 .f32) (g6 : Vec F S4096x4 .f32) (g7 : IVec S4096x4096 8)
    (g8 : Vec F S4096x1 .f32) (g9 : Vec F S1x4096 .f32) (g10 : Vec F S4096x1 .f32) (g11 : Vec F S1x4096 .f32) : sProp 𝕄 :=
  iprop(at_ c cc0_stg0_0 x0 ∗ at_ c cc0_stg1_0 x1 ∗ at_ c cc0_stg2_0 x2 ∗ at_ c cc0_stg3_0 x3 ∗ at_ c cc0_stg4_0 g4 ∗ at_ c cc0_stg5_0 g5
    ∗ at_ c cc0_stg6_0 g6 ∗ at_ c cc0_scratch0 g7 ∗ at_ c cc0_scratch1 g8 ∗ at_ c cc0_scratch2 g9 ∗ at_ c cc0_scratch3 g10 ∗ at_ c cc0_scratch4 g11)

set_option maxHeartbeats 1000000 in
/-- The body leaves the result blocks, the input blocks as they were, and its scratch at something. -/
theorem body_run (g4 : IVec S1x4096 32) (g5 : Vec F S4096x1 .f32) (g6 : Vec F S4096x4 .f32) (g7 : IVec S4096x4096 8)
    (g8 : Vec F S4096x1 .f32) (g9 : Vec F S1x4096 .f32) (g10 : Vec F S4096x1 .f32) (g11 : Vec F S1x4096 .f32) (K : PUnit → sProp 𝕄) :
    iprop(bufsIn c x0 x1 x2 x3 g4 g5 g6 g7 g8 g9 g10 g11
        ∗ ((∃ g7' g8' g9' g10' g11', bufsIn c x0 x1 x2 x3 (outLabels x0 x1 x2 x3) (outClass x2) (outFeat x0 x1 x2 x3) g7' g8' g9' g10' g11') -∗ K ⟨⟩))
      ⊢ wp frame (wpE (defs₀ (F := F)) 𝒱₀ (c : Thread nD τ) none) Set.univ
          (cc0__dbscan_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)) K := by
  simp only [cc0__dbscan_body_eq_skeleton]; unfold cc0__dbscan_body_skel
  simp only [k0_part2_eq_skeleton]; unfold k0_part2_skel
  simp only [Prog.lift, Prog.bind_op, Prog.bind_ret, Prog.pure_eq_ret, bind_assoc]
  unfold bufsIn
  iintro ⟨⟨H0, H1, H2, H3, H4, H5, H6, H7, H8, H9, H10, H11⟩, HK⟩
  iapply (wp_load_rect 𝒱₀ (c : Thread nD τ) none Set.univ (m := Memref.whole cc0_stg3_0)
    (r := Rect.unit (s := S5x4096) ![0, 0] S5x4096.size inb_S5x4096_S5x4096_0_0) (Finset.subset_univ _)) $$ H3; iintro H3
  iapply (wp_load_rect 𝒱₀ (c : Thread nD τ) none Set.univ (m := Memref.whole cc0_stg1_0)
    (r := Rect.unit (s := S6x4096) ![0, 0] S1x4096.size inb_S6x4096_S1x4096_0_0) (Finset.subset_univ _)) $$ H1; iintro H1
  iapply (wp_load_rect 𝒱₀ (c : Thread nD τ) none Set.univ (m := Memref.whole cc0_stg1_0)
    (r := Rect.unit (s := S6x4096) ![1, 0] S1x4096.size inb_S6x4096_S1x4096_1_0) (Finset.subset_univ _)) $$ H1; iintro H1
  iapply (wp_load_rect 𝒱₀ (c : Thread nD τ) none Set.univ (m := Memref.whole cc0_stg1_0)
    (r := Rect.unit (s := S6x4096) ![2, 0] S1x4096.size inb_S6x4096_S1x4096_2_0) (Finset.subset_univ _)) $$ H1; iintro H1
  iapply (wp_load_rect 𝒱₀ (c : Thread nD τ) none Set.univ (m := Memref.whole cc0_stg1_0)
    (r := Rect.unit (s := S6x4096) ![3, 0] S1x4096.size inb_S6x4096_S1x4096_3_0) (Finset.subset_univ _)) $$ H1; iintro H1
  rw [read_s3, load_row x1 0 ![0, 0] rfl, load_row x1 1 ![1, 0] rfl, load_row x1 2 ![2, 0] rfl, load_row x1 3 ![3, 0] rfl]
  iapply (loop1 c none x0 x1 x2 x3 Set.univ g7 g8) $$ [H0 H2 H7 H8]
  · isplitl [H0]; · iexact H0
    isplitl [H2]; · iexact H2
    isplitl [H7]; · iexact H7
    iexact H8
  iintro ⟨H0, H2, H7, H8⟩
  iapply (wp_load_rect 𝒱₀ (c : Thread nD τ) none Set.univ (m := Memref.whole cc0_scratch2)
    (r := Rect.unit (s := S1x4096) ![0, 0] S1x4096.size inb_S1x4096_S1x4096_0_0) (Finset.subset_univ _)) $$ H9; iintro H9
  iapply (wp_store 𝒱₀ (c : Thread nD τ) none Set.univ (m := Memref.whole cc0_scratch2)
    (r := Rect.unit (s := S1x4096) ![0, 0] S1x4096.size inb_S1x4096_S1x4096_0_0) (Mk := Finset.univ) (Finset.subset_univ _)) $$ H9; iintro H9
  rw [write_core]
  iapply (wp_load_rect 𝒱₀ (c : Thread nD τ) none Set.univ (m := Memref.whole cc0_scratch3)
    (r := Rect.unit (s := S4096x1) ![0, 0] S4096x1.size inb_S4096x1_S4096x1_0_0) (Finset.subset_univ _)) $$ H10; iintro H10
  iapply (wp_store 𝒱₀ (c : Thread nD τ) none Set.univ (m := Memref.whole cc0_scratch3)
    (r := Rect.unit (s := S4096x1) ![0, 0] S4096x1.size inb_S4096x1_S4096x1_0_0) (Mk := Finset.univ) (Finset.subset_univ _)) $$ H10; iintro H10
  rw [write_col]
  iapply (wp_load_rect 𝒱₀ (c : Thread nD τ) none Set.univ (m := Memref.whole cc0_scratch4)
    (r := Rect.unit (s := S1x4096) ![0, 0] S1x4096.size inb_S1x4096_S1x4096_0_0) (Finset.subset_univ _)) $$ H11; iintro H11
  iapply (wp_store 𝒱₀ (c : Thread nD τ) none Set.univ (m := Memref.whole cc0_scratch4)
    (r := Rect.unit (s := S1x4096) ![0, 0] S1x4096.size inb_S1x4096_S1x4096_0_0) (Mk := Finset.univ) (Finset.subset_univ _)) $$ H11; iintro H11
  rw [write_lab]
  -- the label loop, through its specification with twenty sweeps allowed
  iapply (wp_call_spec 𝒱₀ (c : Thread nD τ) none Set.univ
    (spec c (adj x0 x1 x2 x3) (coreCol x0 x1 x2 x3) (coreRow x0 x1 x2 x3) 20 1#1 (k0_pay1 (k0_pay26 (F := F)), k0_pay2 (F := F))) 20
    (fun u hu => nomatch hu)
    (spec_le c (adj x0 x1 x2 x3) (coreCol x0 x1 x2 x3) (coreRow x0 x1 x2 x3) Set.univ 20 (le_refl 20) 1#1
      (k0_pay1 (k0_pay26 (F := F)), k0_pay2 (F := F))))
  rw [spec_apply]; unfold held
  isplitl [H7 H10 H8 H9 H11]
  · isplitl [H9]; · iexact H9
    isplitl [H11]; · iexact H11
    isplitl [H7]; · iexact H7
    isplitl [H10]; · iexact H10
    iexact H8
  iintro %r ⟨H9, H11, H7, H10, H8⟩
  iapply (wp_load_rect 𝒱₀ (c : Thread nD τ) none Set.univ (m := Memref.whole cc0_stg2_0)
    (r := Rect.unit (s := S4096x5) ![0, 0] S4096x5.size inb_S4096x5_S4096x5_0_0) (Finset.subset_univ _)) $$ H2; iintro H2
  rw [read_s2]
  iapply (wp_load_rect 𝒱₀ (c : Thread nD τ) none Set.univ (m := Memref.whole cc0_stg5_0)
    (r := Rect.unit (s := S4096x1) ![0, 0] S4096x1.size inb_S4096x1_S4096x1_0_0) (Finset.subset_univ _)) $$ H5; iintro H5
  iapply (wp_store 𝒱₀ (c : Thread nD τ) none Set.univ (m := Memref.whole cc0_stg5_0)
    (r := Rect.unit (s := S4096x1) ![0, 0] S4096x1.size inb_S4096x1_S4096x1_0_0) (Mk := Finset.univ) (Finset.subset_univ _)) $$ H5; iintro H5
  rw [write_o5]
  iapply (loop3 c none x0 (finalLabels x0 x1 x2 x3).2 Set.univ) $$ [H0 H11]
  · isplitl [H0]; · iexact H0
    iexact H11
  iintro ⟨H0, H11⟩
  iapply (wp_load_rect 𝒱₀ (c : Thread nD τ) none Set.univ (m := Memref.whole cc0_stg6_0)
    (r := Rect.unit (s := S4096x4) ![0, 0] S4096x4.size inb_S4096x4_S4096x4_0_0) (Finset.subset_univ _)) $$ H6; iintro H6
  iapply (wp_store 𝒱₀ (c : Thread nD τ) none Set.univ (m := Memref.whole cc0_stg6_0)
    (r := Rect.unit (s := S4096x4) ![0, 0] S4096x4.size inb_S4096x4_S4096x4_0_0) (Mk := Finset.univ) (Finset.subset_univ _)) $$ H6; iintro H6
  rw [write_o6]
  iapply (wp_load_rect 𝒱₀ (c : Thread nD τ) none Set.univ (m := Memref.whole cc0_scratch4)
    (r := Rect.unit (s := S1x4096) ![0, 0] S1x4096.size inb_S1x4096_S1x4096_0_0) (Finset.subset_univ _)) $$ H11; iintro H11
  rw [read_lab]
  iapply (wp_load_rect 𝒱₀ (c : Thread nD τ) none Set.univ (m := Memref.whole cc0_stg4_0)
    (r := Rect.unit (s := S1x4096) ![0, 0] S1x4096.size inb_S1x4096_S1x4096_0_0) (Finset.subset_univ _)) $$ H4; iintro H4
  iapply (wp_store 𝒱₀ (c : Thread nD τ) none Set.univ (m := Memref.whole cc0_stg4_0)
    (r := Rect.unit (s := S1x4096) ![0, 0] S1x4096.size inb_S1x4096_S1x4096_0_0) (Mk := Finset.univ) (Finset.subset_univ _)) $$ H4; iintro H4
  rw [write_o4]
  rw [wp_ret]; imodintro
  iapply HK
  iexists _; iexists _; iexists _; iexists _; iexists _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Body

end Cert.KernelIdeal.Run

end
-- ==== Proof.KI.Dats.lean ====
/-
  The pipeline's proof data of the one kernel launch: what each window's array holds at the region's entry, what each staging
  buffer holds after the body; and the body obligation.
-/
module

public import proofs.«01_k».proof.Proof.KI.Body

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ)

/-- What every buffer holds when the kernel starts: the launch contents with the two transposes done. -/
def entry (c : Dev nD) : Valuation τ sig (Elt F) :=
  StableHlo.after ([hostOps0 (F := F)].flatten) fun b => m (c, b)

/-- The four input blocks as the pipeline stages them: the points, their transpose, the class scores, their transpose. -/
def in0 (c : Dev nD) : Vec F S4096x6 .f32 := ((cfg0 (F := F)).win 0 |>.blk t0_0).view.read (Elt F) (entry m c (Proc.devRef .tc (Pipeline.arrRef spec0 0)))
def in1 (c : Dev nD) : Vec F S6x4096 .f32 := ((cfg0 (F := F)).win 1 |>.blk t0_0).view.read (Elt F) (entry m c (Proc.devRef .tc (Pipeline.arrRef spec0 1)))
def in2 (c : Dev nD) : Vec F S4096x5 .f32 := ((cfg0 (F := F)).win 2 |>.blk t0_0).view.read (Elt F) (entry m c (Proc.devRef .tc (Pipeline.arrRef spec0 2)))
def in3 (c : Dev nD) : Vec F S5x4096 .f32 := ((cfg0 (F := F)).win 3 |>.blk t0_0).view.read (Elt F) (entry m c (Proc.devRef .tc (Pipeline.arrRef spec0 3)))

/-- The proof data: the arrays at the region's entry, the staging buffers after the body, the scoped rest left as it is. -/
def dats (q : Fin 1) (c : Dev nD) : Dat τ (Elt F) Unit ℕ (UR sig nD τ) ℕ ((cfgs (F := F)) q) c :=
  match q with
  | ⟨0, _⟩ =>
    { A := fun w => entry m c (Proc.devRef .tc (Pipeline.arrRef spec0 w))
      after := fun w _ => match w with
        | ⟨0, _⟩ => in0 m c
        | ⟨1, _⟩ => in1 m c
        | ⟨2, _⟩ => in2 m c
        | ⟨3, _⟩ => in3 m c
        | ⟨4, _⟩ => outLabels (in0 m c) (in1 m c) (in2 m c) (in3 m c)
        | ⟨5, _⟩ => outClass (in2 m c)
        | ⟨6, _⟩ => outFeat (in0 m c) (in1 m c) (in2 m c) (in3 m c)
      Φ := fun _ => Pipeline.ΦA spec0 c
      q := fun _ => fullShare
      owed := fun _ => 0 }

theorem after_0 (c : Dev nD) (t : Fin (cfg0 (F := F)).N) : (dats m 0 c).after 0 t = in0 m c := by dsimp only [dats]; rfl
theorem after_1 (c : Dev nD) (t : Fin (cfg0 (F := F)).N) : (dats m 0 c).after 1 t = in1 m c := by dsimp only [dats]; rfl
theorem after_2 (c : Dev nD) (t : Fin (cfg0 (F := F)).N) : (dats m 0 c).after 2 t = in2 m c := by dsimp only [dats]; rfl
theorem after_3 (c : Dev nD) (t : Fin (cfg0 (F := F)).N) : (dats m 0 c).after 3 t = in3 m c := by dsimp only [dats]; rfl
theorem after_4 (c : Dev nD) (t : Fin (cfg0 (F := F)).N) :
    (dats m 0 c).after 4 t = outLabels (in0 m c) (in1 m c) (in2 m c) (in3 m c) := by dsimp only [dats]; rfl
theorem after_5 (c : Dev nD) (t : Fin (cfg0 (F := F)).N) : (dats m 0 c).after 5 t = outClass (in2 m c) := by dsimp only [dats]; rfl
theorem after_6 (c : Dev nD) (t : Fin (cfg0 (F := F)).N) :
    (dats m 0 c).after 6 t = outFeat (in0 m c) (in1 m c) (in2 m c) (in3 m c) := by dsimp only [dats]; rfl

/-- A staging buffer owned at `X`, as the obligation spells it. -/
def stg (c : Dev nD) (b : Ref sig .tc) (X : b.ty.Contents (Elt F)) : sProp 𝕄 :=
  iprop(∃ f, ⌜f = X⌝ ∗ ((c : Thread nD τ).loc b) ↦{fullShare} f)

/-- What the body is given at the one grid point. -/
def bodyPre (c : Dev nD) : sProp 𝕄 :=
  iprop((dats m 0 c).Φ (t0_0).castSucc ∗ (dats m 0 c).owesAt () (t0_0).castSucc
    ∗ (∃ d, stg c cc0_stg0_0 ((dats m 0 c).before (0 : Fin 7) t0_0 d))
    ∗ (∃ d, stg c cc0_stg1_0 ((dats m 0 c).before (1 : Fin 7) t0_0 d))
    ∗ (∃ d, stg c cc0_stg2_0 ((dats m 0 c).before (2 : Fin 7) t0_0 d))
    ∗ (∃ d, stg c cc0_stg3_0 ((dats m 0 c).before (3 : Fin 7) t0_0 d))
    ∗ (∃ d, stg c cc0_stg4_0 ((dats m 0 c).before (4 : Fin 7) t0_0 d))
    ∗ (∃ d, stg c cc0_stg5_0 ((dats m 0 c).before (5 : Fin 7) t0_0 d))
    ∗ (∃ d, stg c cc0_stg6_0 ((dats m 0 c).before (6 : Fin 7) t0_0 d)))

/-- What it gives back. -/
def bodyPost (c : Dev nD) : sProp 𝕄 :=
  iprop((dats m 0 c).Φ (t0_0).succ ∗ (dats m 0 c).owesAt () (t0_0).succ
    ∗ stg c cc0_stg0_0 (in0 m c) ∗ stg c cc0_stg1_0 (in1 m c) ∗ stg c cc0_stg2_0 (in2 m c) ∗ stg c cc0_stg3_0 (in3 m c)
    ∗ stg c cc0_stg4_0 (outLabels (in0 m c) (in1 m c) (in2 m c) (in3 m c))
    ∗ stg c cc0_stg5_0 (outClass (in2 m c))
    ∗ stg c cc0_stg6_0 (outFeat (in0 m c) (in1 m c) (in2 m c) (in3 m c)))

theorem owns_whole_eq (c : Dev nD) (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer at `X` is owned at `X`. -/
theorem stg_intro (c : Dev nD) (b : Ref sig .tc) (X : b.ty.Contents (Elt F)) :
    (iprop(((c : Thread nD τ).loc b) ↦{fullShare} X) : sProp 𝕄) ⊢ stg c b X := by
  unfold stg
  iintro H; iexists X; isplitr
  · ipureintro; rfl
  · iexact H

/-- The body obligation at the one grid point, over the whole buffers. -/
theorem sound_body (c : Dev nD) (K : PUnit → sProp 𝕄) :
    iprop(bodyPre m c ∗ (bodyPost m c -∗ K ⟨⟩))
      ⊢ wp frame (wpE (defs₀ (F := F)) 𝒱₀ (c : Thread nD τ) none) Set.univ
          (cc0__dbscan_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)) K := by
  unfold bodyPre stg
  rw [show (dats m 0 c).Φ (t0_0).castSucc = Pipeline.ΦA spec0 c from rfl]
  unfold Pipeline.ΦA; rw [scopedRest0_eq]
  iintro ⟨⟨⟨⟨⟨%g7, H7⟩, ⟨%g8, H8⟩, ⟨%g9, H9⟩, ⟨%g10, H10⟩, ⟨%g11, H11⟩⟩, Hr⟩, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩⟩, Hk⟩
  have e0 : f0 = in0 m c := by
    rw [h0]; unfold Dat.before; exact if_pos (fetch0_0 t0_0)
  have e1 : f1 = in1 m c := by
    rw [h1]; unfold Dat.before; exact if_pos (fetch0_1 t0_0)
  have e2 : f2 = in2 m c := by
    rw [h2]; unfold Dat.before; exact if_pos (fetch0_2 t0_0)
  have e3 : f3 = in3 m c := by
    rw [h3]; unfold Dat.before; exact if_pos (fetch0_3 t0_0)
  subst e0 e1 e2 e3
  clear h4 h5 h6
  iapply (body_run c (in0 m c) (in1 m c) (in2 m c) (in3 m c) f4 f5 f6 g7 g8 g9 g10 g11 K)
  unfold bufsIn at_
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro ⟨%k7, %k8, %k9, %k10, %k11, H0, H1, H2, H3, H4, H5, H6, H7, H8, H9, H10, H11⟩
  iapply Hk
  unfold bodyPost
  rw [show (dats m 0 c).Φ (t0_0).succ = Pipeline.ΦA spec0 c from rfl]
  unfold Pipeline.ΦA; rw [scopedRest0_eq]
  isplitl [H7 H8 H9 H10 H11 Hr]
  · isplitl [H7 H8 H9 H10 H11]
    · isplitl [H7]; · iexists _; iexact H7
      isplitl [H8]; · iexists _; iexact H8
      isplitl [H9]; · iexists _; iexact H9
      isplitl [H10]; · iexists _; iexact H10
      iexists _; iexact H11
    iexact Hr
  isplitl [Howes]; · iexact Howes
  isplitl [H0]; · iapply stg_intro; iexact H0
  isplitl [H1]; · iapply stg_intro; iexact H1
  isplitl [H2]; · iapply stg_intro; iexact H2
  isplitl [H3]; · iapply stg_intro; iexact H3
  isplitl [H4]; · iapply stg_intro; iexact H4
  isplitl [H5]; · iapply stg_intro; iexact H5
  iapply stg_intro; iexact H6

set_option maxHeartbeats 1000000 in
/-- The body obligation of the pipeline. -/
theorem body_obligation (c : Dev nD) :
    BodyObligation (dats (F := F) m 0 c) (defs₀ (F := F)) 𝒱₀ () Set.univ := fun t => by
  rw [show t = t0_0 from fin_N0 t]
  rw [bigSep_W0, bigSep_W0]
  sl_whnfR [defs₀, Defs.onTc]
  simp only [owns_whole_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl,
    show stage0_6 0 = Memref.whole cc0_stg6_0 from rfl]
  rw [after_0, after_1, after_2, after_3, after_4, after_5, after_6]
  iintro H
  iapply (sound_body m c fun _ => bodyPost m c)
  unfold bodyPre
  isplitl [H]; · iexact H
  iintro H; iexact H

end Cert.KernelIdeal.Run

end
-- ==== Proof.KI.Launch.lean ====
/-
  The kernel's run: from any launch state it ends with its argument arrays unchanged, its counters at zero, and its four results
  at the values computed by `Model.lean` from the two arguments.
-/
module

public import proofs.«01_k».proof.Proof.KI.Dats

@[expose] public section

set_option maxRecDepth 16384

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI Idealize.SL.Sem
open Idealize.ShloMosaic.Rounds
open Idealize.ShloMosaic.Pipeline (Dat Cfg Window BodyObligation BodyObligationLoose)

variable {F : FTy → Type} [FloatOps F]

variable (m : (ℓ : Loc nD τ sig) → Buf (Elt F) ℓ)

/-- The two arguments. -/
def arg0 (c : Dev nD) : Vec F S4096x6 .f32 := m ((c : Thread nD τ).loc main_arg0)
def arg1 (c : Dev nD) : Vec F S4096x5 .f32 := m ((c : Thread nD τ).loc main_arg1)

theorem entry_arg0 (c : Dev nD) : entry m c (Proc.devRef .tc main_arg0) = arg0 m c := by
  unfold entry; simp only [List.flatten_cons, List.flatten_nil, List.append_nil]
  after_results; rfl

theorem entry_arg1 (c : Dev nD) : entry m c (Proc.devRef .tc main_arg1) = arg1 m c := by
  unfold entry; simp only [List.flatten_cons, List.flatten_nil, List.append_nil]
  after_results; rfl

theorem entry_v0 (c : Dev nD) :
    entry m c (Proc.devRef .tc main_call0_v0) = transpose S6x4096 [1, 0] (arg0 m c) transposes_S4096x6_S6x4096_1_0 := by
  unfold entry; simp only [List.flatten_cons, List.flatten_nil, List.append_nil]
  after_results; rfl

theorem entry_v1 (c : Dev nD) :
    entry m c (Proc.devRef .tc main_call0_v1) = transpose S5x4096 [1, 0] (arg1 m c) transposes_S4096x5_S5x4096_1_0 := by
  unfold entry; simp only [List.flatten_cons, List.flatten_nil, List.append_nil]
  after_results; rfl

theorem zero_block {a n x : ℕ} (h : a = 0) : a * n + x = x := by subst h; omega

/-- Each staged input block is the whole array. -/
theorem in0_eq (c : Dev nD) : in0 m c = arg0 m c := by
  rw [← entry_arg0]; unfold in0; funext j; blk_ext
  · exact zero_block rfl
  · exact zero_block rfl

theorem in1_eq (c : Dev nD) : in1 m c = transpose S6x4096 [1, 0] (arg0 m c) transposes_S4096x6_S6x4096_1_0 := by
  rw [← entry_v0]; unfold in1; funext j; blk_ext
  · exact zero_block rfl
  · exact zero_block rfl

theorem in2_eq (c : Dev nD) : in2 m c = arg1 m c := by
  rw [← entry_arg1]; unfold in2; funext j; blk_ext
  · exact zero_block rfl
  · exact zero_block rfl

theorem in3_eq (c : Dev nD) : in3 m c = transpose S5x4096 [1, 0] (arg1 m c) transposes_S4096x5_S5x4096_1_0 := by
  rw [← entry_v1]; unfold in3; funext j; blk_ext
  · exact zero_block rfl
  · exact zero_block rfl

/-- The output windows' one block is the whole array. -/
theorem whole_4 : (win0_4).WholeAt t0_0 := by decide +kernel
theorem whole_5 : (win0_5).WholeAt t0_0 := by decide +kernel
theorem whole_6 : (win0_6).WholeAt t0_0 := by decide +kernel

/-- The three output arrays after the launch. -/
theorem arr_4 (c : Dev nD) : (dats m 0 c).arrAt 4 (cfg0 (F := F)).N = outLabels (in0 m c) (in1 m c) (in2 m c) (in3 m c) :=
  (dats m 0 c).arrAt_eq_of_after_last 4 t0_0 whole_4 _ fun j => by
    rw [after_4]
    refine congrArg _ ?_; blk_ext

theorem arr_5 (c : Dev nD) : (dats m 0 c).arrAt 5 (cfg0 (F := F)).N = outClass (in2 m c) :=
  (dats m 0 c).arrAt_eq_of_after_last 5 t0_0 whole_5 _ fun j => by
    rw [after_5]
    blk_simp
    exact congrArg (outClass (in2 m c)) (funext fun a => rfl)

theorem arr_6 (c : Dev nD) : (dats m 0 c).arrAt 6 (cfg0 (F := F)).N = outFeat (in0 m c) (in1 m c) (in2 m c) (in3 m c) :=
  (dats m 0 c).arrAt_eq_of_after_last 6 t0_0 whole_6 _ fun j => by
    rw [after_6]
    refine congrArg _ ?_; blk_ext

/-- The four results as functions of the arguments. -/
def res0 (c : Dev nD) : IVec S4096 32 :=
  shapeCast S4096 (outLabels (in0 m c) (in1 m c) (in2 m c) (in3 m c)) shapeCasts_S1x4096_S4096
def res1 (c : Dev nD) : IVec S4096 32 :=
  fptosi 32 (shapeCast S4096 (extractStridedSlice S4096x1 ![0, 0] (arg0 m c) slices_S4096x6_S4096x1_0_0) shapeCasts_S4096x1_S4096)
def res2 (c : Dev nD) : IVec S4096 32 := fptosi 32 (shapeCast S4096 (outClass (in2 m c)) shapeCasts_S4096x1_S4096)
def res3 (c : Dev nD) : Vec F S4096x4 .f32 := outFeat (in0 m c) (in1 m c) (in2 m c) (in3 m c)

/-- What the buffers hold when the last host lines start. -/
def left (c : Dev nD) : Valuation τ sig (Elt F) :=
  Pipeline.withArrays spec0 c (entry m c) fun w => (dats m 0 c).arrAt w (cfg0 (F := F)).N

theorem left_lab (c : Dev nD) : left m c (Proc.devRef .tc main_call0_v2_0) = outLabels (in0 m c) (in1 m c) (in2 m c) (in3 m c) := by
  rw [← arr_4]
  exact Pipeline.withArrays_arr spec0 (launch0 (F := F)).win.arr_inj c (entry m c) _ (4 : Fin 7)

theorem left_cls (c : Dev nD) : left m c (Proc.devRef .tc main_call0_v2_1) = outClass (in2 m c) := by
  rw [← arr_5]
  exact Pipeline.withArrays_arr spec0 (launch0 (F := F)).win.arr_inj c (entry m c) _ (5 : Fin 7)

theorem left_arg0 (c : Dev nD) : left m c (Proc.devRef .tc main_arg0) = arg0 m c := by
  rw [← entry_arg0]
  exact (Pipeline.withArrays_arr spec0 (launch0 (F := F)).win.arr_inj c (entry m c) _ (0 : Fin 7)).trans ((dats m 0 c).arrAt_in 0 rfl _)

/-- The host lines after the launch, read at the three results they write. -/
theorem tail_0 (c : Dev nD) : StableHlo.after ([hostOps1 (F := F)].flatten) (left m c) (Proc.devRef .tc main_v0_0) = res0 m c := by
  simp only [List.flatten_cons, List.flatten_nil, List.append_nil]
  unfold res0
  rw [← left_lab]; generalize left m c = X
  after_results; rfl

theorem tail_1 (c : Dev nD) : StableHlo.after ([hostOps1 (F := F)].flatten) (left m c) (Proc.devRef .tc main_v0_1) = res1 m c := by
  simp only [List.flatten_cons, List.flatten_nil, List.append_nil]
  unfold res1
  rw [← left_arg0]; generalize left m c = X
  after_results; rfl

theorem tail_2 (c : Dev nD) : StableHlo.after ([hostOps1 (F := F)].flatten) (left m c) (Proc.devRef .tc main_v0_2) = res2 m c := by
  simp only [List.flatten_cons, List.flatten_nil, List.append_nil]
  unfold res2
  rw [← left_cls]; generalize left m c = X
  after_results; rfl

/-- The last host lines write no window's array. -/
theorem tail_off : ∀ b ∈ [main_v0_0, main_call0_v4, main_call0_v5, main_v0_1, main_call0_v7, main_v0_2], ∀ w : Fin 7,
    Pipeline.arrRef spec0 w ≠ b := by decide

/-- The kernel's run. -/
theorem run (g : Dev nD → PrngReg) :
    θ_run (defs (F := F)) (onTc (τ := τ) (main (F := F))) ⟨m, fun _ => 0, g⟩ (fun r => (∀ c : Dev nD,
      r.2.mem ((c : Thread nD τ).loc main_v0_0) = res0 m c
      ∧ r.2.mem ((c : Thread nD τ).loc main_v0_1) = res1 m c
      ∧ r.2.mem ((c : Thread nD τ).loc main_v0_2) = res2 m c
      ∧ r.2.mem ((c : Thread nD τ).loc main_v0_3) = res3 m c
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) := by
  refine Pipeline.θ_run_frame_around (cfgs (F := F)) (dats m) 0 launch0 (defs₀ (F := F)) 𝒱₀ m g (main (F := F))
    (fun c => (body_obligation m c).loose) (fun c w => by fin_cases w <;> rfl) (fun c t => rfl) (entry m) [hostOps1]
    ?_ ?_ ?_ ?_ (fun c w => rfl) (fun c t => rfl) _ ?_
  · intro ops h op hop
    simp only [List.mem_singleton] at h; subst h
    exact Pipeline.sub_tailRefs _ _ op (List.forall_iff_forall_mem.mp hostOps1_sub op hop) fun k => k.elim0
  · intro ops h op hop
    simp only [List.mem_singleton] at h; subst h
    fin_cases hop <;> rfl
  · intro ops h op hop w
    simp only [List.mem_singleton] at h; subst h
    fin_cases hop <;> exact fun h => StableHlo.devRef_ne_of_ne (tail_off _ (by simp) w) (Finset.mem_singleton.mp h)
  · exact Pipeline.hmain_around (cfgs (F := F)) 0 (defs₀ (F := F)) 𝒱₀ m (main (F := F)) [hostOps0] [hostOps1]
      (by simp only [List.forall_cons, List.Forall, and_true]; exact hostOps0_sub) (by simp only [List.Forall]; exact ⟨rfl, rfl⟩) (fun c => (main_chain c).trans rfl)
  · rintro r ⟨h, hs⟩
    refine ⟨fun c => ⟨?_, ?_, ?_, ?_, ?_, ?_⟩, hs⟩
    · exact (h.rest_eq c main_v0_0 (show main_v0_0 ∈ Pipeline.restRefs sig spec0 from by decide)).trans (tail_0 m c)
    · exact (h.rest_eq c main_v0_1 (show main_v0_1 ∈ Pipeline.restRefs sig spec0 from by decide)).trans (tail_1 m c)
    · exact (h.rest_eq c main_v0_2 (show main_v0_2 ∈ Pipeline.restRefs sig spec0 from by decide)).trans (tail_2 m c)
    · exact (h.out_eq c (6 : Fin 7)).trans (arr_6 m c)
    · exact (h.in_eq c (0 : Fin 7) rfl).trans (entry_arg0 m c)
    · exact (h.in_eq c (2 : Fin 7) rfl).trans (entry_arg1 m c)

end Cert.KernelIdeal.Run

end
-- ==== Proof.Ref.Run.lean ====
/-
  The reference's run: from any launch state it ends with its argument arrays unchanged, its counters at zero, and its four
  results at the values written out here from the two arguments.
-/
module

public import proofs.«01_k».proof.Proof.Gen.ReferenceIdeal.Run
public import Idealize.ShloMosaic.Lib.StableHlo.RunHlo

@[expose] public section

set_option maxRecDepth 16384

noncomputable section

namespace Cert.ReferenceIdeal.Run

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

/-! ## The values -/

/-- The class of each point: the position of the largest of its scores. -/
def cls (x1 : Vec F S4096x5 .f32) : IVec S4096 32 := fun j =>
  (Host.argReduce reducer_argmax_f32_i32 x1 (iotaInDim S4096x5 32 1) (constant S_ .f32 0xFF800000#32) (constantI S_ 32 0#32)
    reducesTo_S4096x5_S4096_d1 h_S_ j).2

/-- The batch column. -/
def bat (x0 : Vec F S4096x6 .f32) : Vec F S4096 .f32 :=
  shapeCast S4096 (extractStridedSlice S4096x1 ![0, 0] x0 slices_S4096x6_S4096x1_0_0) shapeCasts_S4096x1_S4096

/-- The three coordinates. -/
def xyz (x0 : Vec F S4096x6 .f32) : Vec F S4096x3 .f32 := extractStridedSlice S4096x3 ![0, 1] x0 slices_S4096x6_S4096x3_0_1

/-- The coordinate differences of every two points. -/
def diffs (x0 : Vec F S4096x6 .f32) : Vec F S4096x4096x3 .f32 :=
  subf (broadcastInDim S4096x4096x3 ![0, 1, 2] bcast_S4096x1x3_S4096x4096x3_0_1_2 (broadcastInDim S4096x1x3 ![0, 2] bcast_S4096x3_S4096x1x3_0_2 (xyz x0)))
    (broadcastInDim S4096x4096x3 ![0, 1, 2] bcast_S1x4096x3_S4096x4096x3_0_1_2 (broadcastInDim S1x4096x3 ![1, 2] bcast_S4096x3_S1x4096x3_1_2 (xyz x0)))

/-- The squared distances. -/
def dist (x0 : Vec F S4096x6 .f32) : Vec F S4096x4096 .f32 :=
  Host.reduceAdd (mulf (diffs x0) (diffs x0)) (constant S_ .f32 0x00000000#32) reducesTo_S4096x4096x3_S4096x4096_d2 h_S_

/-- Two points are near: close enough, of one class and of one batch. -/
def near (x0 : Vec F S4096x6 .f32) (x1 : Vec F S4096x5 .f32) : IVec S4096x4096 1 :=
  andi (andi
      (cmpf .ole (dist x0) (broadcastInDim S4096x4096 ![] bcast_S_S4096x4096 (constant S_ .f32 0x40670A3D#32)))
      (cmpi .eq (broadcastInDim S4096x4096 ![0, 1] bcast_S4096x1_S4096x4096_0_1 (broadcastInDim S4096x1 ![0] bcast_S4096_S4096x1_0 (cls x1)))
        (broadcastInDim S4096x4096 ![0, 1] bcast_S1x4096_S4096x4096_0_1 (broadcastInDim S1x4096 ![1] bcast_S4096_S1x4096_1 (cls x1)))))
    (cmpf .oeq (broadcastInDim S4096x4096 ![0, 1] bcast_S4096x1_S4096x4096_0_1 (broadcastInDim S4096x1 ![0] bcast_S4096_S4096x1_0 (bat x0)))
      (broadcastInDim S4096x4096 ![0, 1] bcast_S1x4096_S4096x4096_0_1 (broadcastInDim S1x4096 ![1] bcast_S4096_S1x4096_1 (bat x0))))

/-- A point is a core point: at least three points are near it. -/
def core (x0 : Vec F S4096x6 .f32) (x1 : Vec F S4096x5 .f32) : IVec S4096 1 :=
  cmpi .sge (Host.reduce IntOp.addi (extui 32 (near x0 x1) natLt_1_32) (constantI S_ 32 0#32) reducesTo_S4096x4096_S4096_d1 h_S_)
    (broadcastInDim S4096 ![] bcast_S_S4096 (constantI S_ 32 3#32))

/-- The points a label travels from: near, and core. -/
def conn (x0 : Vec F S4096x6 .f32) (x1 : Vec F S4096x5 .f32) : IVec S4096x4096 1 :=
  andi (near x0 x1) (broadcastInDim S4096x4096 ![0, 1] bcast_S1x4096_S4096x4096_0_1 (broadcastInDim S1x4096 ![1] bcast_S4096_S1x4096_1 (core x0 x1)))

/-- One round of the labels. -/
def round (cn : IVec S4096x4096 1) (l : IVec S4096 32) : IVec S4096 32 :=
  minsi l (Host.reduce IntOp.minsi
    (select cn (broadcastInDim S4096x4096 ![0, 1] bcast_S1x4096_S4096x4096_0_1 (broadcastInDim S1x4096 ![1] bcast_S4096_S1x4096_1 l))
      (broadcastInDim S4096x4096 ![] bcast_S_S4096x4096 (constantI S_ 32 4096#32)))
    (constantI S_ 32 2147483647#32) reducesTo_S4096x4096_S4096_d1 h_S_)

/-- The labels after twenty rounds from the points' own numbers. -/
def labels (x0 : Vec F S4096x6 .f32) (x1 : Vec F S4096x5 .f32) : IVec S4096 32 :=
  (round (conn x0 x1))^[20] (iotaInDim S4096 32 0)

/-- The label as an index, a negative one counted from the end. -/
def index (l : IVec S4096 32) : IVec S4096x1 32 :=
  broadcastInDim S4096x1 ![0] bcast_S4096_S4096x1_0
    (select (cmpi .slt l (broadcastInDim S4096 ![] bcast_S_S4096 (constantI S_ 32 0#32)))
      (addi l (broadcastInDim S4096 ![] bcast_S_S4096 (constantI S_ 32 4096#32))) l)

/-- The batch of each point's label. -/
def outBat (x0 : Vec F S4096x6 .f32) (x1 : Vec F S4096x5 .f32) : IVec S4096 32 :=
  fptosi 32 (Host.gather gather_S4096_S4096x1_S4096_n_0_n_n_0_1_1 (bat x0) (index (labels x0 x1)))

/-- The class of each point's label. -/
def outCls (x0 : Vec F S4096x6 .f32) (x1 : Vec F S4096x5 .f32) : IVec S4096 32 :=
  Host.gather gather_S4096_S4096x1_S4096_n_0_n_n_0_1_1 (cls x1) (index (labels x0 x1))

/-- The features summed by label. -/
def outSum (x0 : Vec F S4096x6 .f32) (x1 : Vec F S4096x5 .f32) : Vec F S4096x4 .f32 :=
  Host.scatterAdd scatter_S4096x4_S4096x1_S4096x4_1_0_0_1
    (broadcastInDim S4096x4 ![] bcast_S_S4096x4 (constant S_ .f32 0x00000000#32))
    (broadcastInDim S4096x1 ![0] bcast_S4096_S4096x1_0 (labels x0 x1))
    (extractStridedSlice S4096x4 ![0, 1] x0 slices_S4096x6_S4096x4_0_1)

/-! ## The buffers -/

variable (m : (ℓ : Loc nD τ sig) → Buf (Elt F) ℓ) (c : Dev nD)

/-- The two arguments. -/
def arg0 : Vec F S4096x6 .f32 := m ((c : Thread nD τ).loc main_arg0)
def arg1 : Vec F S4096x5 .f32 := m ((c : Thread nD τ).loc main_arg1)

/-- A buffer the loop does not write is at every trip as it was at the loop's entry. -/
theorem kept (b : Ref sig .tc) (h0 : b ∉ condOps_W) (h1 : b ∉ trip_w0_W) (h2 : b ∉ trip_w1_W) (h3 : b ∉ trip_w2_W)
    (h4 : ∀ op ∈ (while0Ops0_2_step : List (HloOp τ sig (Elt F))), Proc.devRef .tc b ∉ op.writes) :
    ∀ k, atK m k c (Proc.devRef .tc b) = entryContents preI m c (Proc.devRef .tc b)
  | 0 => rfl
  | k + 1 => by
    rw [show atK m (k + 1) c = afterL bodyI (after condOps (atK m k c)) from rfl]
    simp only [bodyI, afterL_cons, afterL_nil, trip_windows]
    rw [after_of_forall_not_mem _ _ h4, val3_keep _ _ h3, val2_keep _ _ h2, val1_keep _ _ h1]
    exact (after_of_writes_sub condOps _ condOps_writes h0).trans (kept b h0 h1 h2 h3 h4 k)

theorem kept_arg0 : atK m 20 c (Proc.devRef .tc main_arg0) = entryContents preI m c (Proc.devRef .tc main_arg0) :=
  kept m c _ (by decide) (by decide) (by decide) (by decide)
    (fun op hop => by fin_cases hop <;> exact fun h => devRef_ne_of_ne (by decide) (Finset.mem_singleton.mp h)) 20
theorem kept_arg1 : atK m 20 c (Proc.devRef .tc main_arg1) = entryContents preI m c (Proc.devRef .tc main_arg1) :=
  kept m c _ (by decide) (by decide) (by decide) (by decide)
    (fun op hop => by fin_cases hop <;> exact fun h => devRef_ne_of_ne (by decide) (Finset.mem_singleton.mp h)) 20
theorem kept_v0 : atK m 20 c (Proc.devRef .tc main_v0) = entryContents preI m c (Proc.devRef .tc main_v0) :=
  kept m c _ (by decide) (by decide) (by decide) (by decide)
    (fun op hop => by fin_cases hop <;> exact fun h => devRef_ne_of_ne (by decide) (Finset.mem_singleton.mp h)) 20
theorem kept_v2 : atK m 20 c (Proc.devRef .tc main_v2) = entryContents preI m c (Proc.devRef .tc main_v2) :=
  kept m c _ (by decide) (by decide) (by decide) (by decide)
    (fun op hop => by fin_cases hop <;> exact fun h => devRef_ne_of_ne (by decide) (Finset.mem_singleton.mp h)) 20

theorem entry_arg0 : entryContents preI m c (Proc.devRef .tc main_arg0) = arg0 m c := by
  simp only [entryContents, afterL_cons, afterL_nil]
  after_reads_simp
  rfl
theorem entry_arg1 : entryContents preI m c (Proc.devRef .tc main_arg1) = arg1 m c := by
  simp only [entryContents, afterL_cons, afterL_nil]
  after_reads_simp
  rfl
theorem entry_v0 : entryContents preI m c (Proc.devRef .tc main_v0) = cls (arg1 m c) := by
  simp only [entryContents, afterL_cons, afterL_nil]
  after_reads_simp
  rfl
theorem entry_v2 : entryContents preI m c (Proc.devRef .tc main_v2) = bat (arg0 m c) := by
  simp only [entryContents, afterL_cons, afterL_nil]
  after_reads_simp
  rfl
theorem entry_conn : entryContents preI m c (Proc.devRef .tc main_v33_0) = conn (arg0 m c) (arg1 m c) := by
  simp only [entryContents, afterL_cons, afterL_nil]
  after_reads_simp
  rfl
theorem entry_lab : entryContents preI m c (Proc.devRef .tc main_v33_3) = iotaInDim S4096 32 0 := by
  simp only [entryContents, afterL_cons, afterL_nil]
  after_reads_simp
  rfl

/-- One trip's labels are one round of the labels. -/
theorem step_eq (X : Valuation τ sig (Elt F)) :
    step_main_v33_3 X = round (X (Proc.devRef .tc main_v33_0)) (X (Proc.devRef .tc main_v33_3)) := by
  unfold step_main_v33_3 round; simp only [id_eq]

/-- The carried labels after `k` trips. -/
theorem steps (V : Valuation τ sig (Elt F)) : ∀ k,
    STEP^[k] V (Proc.devRef .tc main_v33_0) = V (Proc.devRef .tc main_v33_0)
      ∧ STEP^[k] V (Proc.devRef .tc main_v33_3) = (round (V (Proc.devRef .tc main_v33_0)))^[k] (V (Proc.devRef .tc main_v33_3))
  | 0 => ⟨rfl, rfl⟩
  | k + 1 => by
    obtain ⟨h0, h3⟩ := steps V k
    rw [Function.iterate_succ_apply', Function.iterate_succ_apply']
    exact ⟨(STEP_main_v33_0 _).trans h0, (STEP_main_v33_3 _).trans ((step_eq _).trans (by rw [h3, h0]))⟩

theorem loop_lab : atK m 20 c (Proc.devRef .tc main_v33_3) = labels (arg0 m c) (arg1 m c) := by
  unfold labels
  rw [atK_agree m c 20 main_v33_3 (by decide), (steps _ 20).2, entry_conn, entry_lab]

/-- What the buffers hold when the last host lines start. -/
def left : Valuation τ sig (Elt F) := after condOps (atK m 20 c)

theorem left_of (b : Ref sig .tc) (h : b ∉ condOps_W) : left m c (Proc.devRef .tc b) = atK m 20 c (Proc.devRef .tc b) :=
  after_of_writes_sub condOps _ condOps_writes h

theorem left_arg0 : left m c (Proc.devRef .tc main_arg0) = arg0 m c :=
  (left_of m c _ (by decide)).trans ((kept_arg0 m c).trans (entry_arg0 m c))
theorem left_arg1 : left m c (Proc.devRef .tc main_arg1) = arg1 m c :=
  (left_of m c _ (by decide)).trans ((kept_arg1 m c).trans (entry_arg1 m c))
theorem left_v0 : left m c (Proc.devRef .tc main_v0) = cls (arg1 m c) :=
  (left_of m c _ (by decide)).trans ((kept_v0 m c).trans (entry_v0 m c))
theorem left_v2 : left m c (Proc.devRef .tc main_v2) = bat (arg0 m c) :=
  (left_of m c _ (by decide)).trans ((kept_v2 m c).trans (entry_v2 m c))
theorem left_lab : left m c (Proc.devRef .tc main_v33_3) = labels (arg0 m c) (arg1 m c) :=
  (left_of m c _ (by decide)).trans (loop_lab m c)

theorem final_eq : finalContents condOps preI bodyI postI 20 m c = after hostOps0_2 (left m c) := rfl

theorem final_arg0 : finalContents condOps preI bodyI postI 20 m c (Proc.devRef .tc main_arg0) = arg0 m c := by
  rw [final_eq, ← left_arg0]; generalize left m c = X
  after_reads_simp
theorem final_arg1 : finalContents condOps preI bodyI postI 20 m c (Proc.devRef .tc main_arg1) = arg1 m c := by
  rw [final_eq, ← left_arg1]; generalize left m c = X
  after_reads_simp
theorem final_lab : finalContents condOps preI bodyI postI 20 m c (Proc.devRef .tc main_v33_3) = labels (arg0 m c) (arg1 m c) := by
  rw [final_eq, ← left_lab]; generalize left m c = X
  after_reads_simp
theorem final_bat : finalContents condOps preI bodyI postI 20 m c (Proc.devRef .tc main_v41) = outBat (arg0 m c) (arg1 m c) := by
  unfold outBat
  rw [final_eq, ← left_lab, ← left_v2]; generalize left m c = X
  after_reads_simp; rfl
theorem final_cls : finalContents condOps preI bodyI postI 20 m c (Proc.devRef .tc main_v48) = outCls (arg0 m c) (arg1 m c) := by
  unfold outCls
  rw [final_eq, ← left_lab, ← left_v0]; generalize left m c = X
  after_reads_simp; rfl
theorem final_sum : finalContents condOps preI bodyI postI 20 m c (Proc.devRef .tc main_v52) = outSum (arg0 m c) (arg1 m c) := by
  unfold outSum
  rw [final_eq, ← left_lab, ← left_arg0]; generalize left m c = X
  after_reads_simp

/-! ## The run -/

/-- The program declares no semaphore, so every counter is zero in any state. -/
theorem sem_zero (s : MemSt nD τ sig (Elt F)) : s.sem = fun _ => 0 := by
  funext ⟨t, sm⟩
  cases sm with
  | reg s => exact s.elim0
  | dma s => exact s.elim0

/-- The reference's run. -/
theorem run (ρ : Dev nD → PrngReg) :
    θ_run (defs (F := F)) (onTc (τ := τ) (main (F := F))) ⟨m, fun _ => 0, ρ⟩ (fun r => (∀ c : Dev nD,
      r.2.mem ((c : Thread nD τ).loc main_v33_3) = labels (arg0 m c) (arg1 m c)
      ∧ r.2.mem ((c : Thread nD τ).loc main_v41) = outBat (arg0 m c) (arg1 m c)
      ∧ r.2.mem ((c : Thread nD τ).loc main_v48) = outCls (arg0 m c) (arg1 m c)
      ∧ r.2.mem ((c : Thread nD τ).loc main_v52) = outSum (arg0 m c) (arg1 m c)
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  θ_run_mono (run_fold m ρ) fun r h => ⟨fun c =>
    ⟨(h c main_v33_3 rfl).trans (final_lab m c), (h c main_v41 rfl).trans (final_bat m c), (h c main_v48 rfl).trans (final_cls m c),
      (h c main_v52 rfl).trans (final_sum m c), (h c main_arg0 rfl).trans (final_arg0 m c), (h c main_arg1 rfl).trans (final_arg1 m c)⟩, sem_zero _⟩

end Cert.ReferenceIdeal.Run

end
-- ==== Proof.Val.Math.lean ====
/-
  The mathematics the value claim rests on, free of both programs: the constants as extended reals, the first position
  of the largest score as a minimum and as a fold, and one round of labels.
-/
module

public import Idealize.ShloMosaic.Lib.Pointwise
public import Idealize.ShloMosaic.Lib.IdealHost
public import Idealize.ShloMosaic.Lib.IndicatorCount

@[expose] public section

set_option maxRecDepth 16384

noncomputable section

namespace Cert.Val

open Idealize.ShloMosaic

/-! ## The constants -/

theorem c5 : Ideal.ofBits .f32 0x40A00000#32 = ((5 : ℝ) : EReal) := by simp [Ideal.ofBits, Ideal.ieee, -EReal.coe_mul]; norm_num
theorem c8 : Ideal.ofBits .f32 0x41000000#32 = ((8 : ℝ) : EReal) := by simp [Ideal.ofBits, Ideal.ieee, -EReal.coe_mul]; norm_num
theorem c2 : Ideal.ofBits .f32 0x40000000#32 = ((2 : ℝ) : EReal) := by simp [Ideal.ofBits, Ideal.ieee, -EReal.coe_mul]; try norm_num
theorem c3 : Ideal.ofBits .f32 0x40400000#32 = ((3 : ℝ) : EReal) := by simp [Ideal.ofBits, Ideal.ieee, -EReal.coe_mul]; norm_num
theorem cHalf : Ideal.ofBits .f32 0x3F000000#32 = ((1 / 2 : ℝ) : EReal) := by simp [Ideal.ofBits, Ideal.ieee, -EReal.coe_mul]; try norm_num
theorem c4096 : Ideal.ofBits .f32 0x45800000#32 = ((4096 : ℝ) : EReal) := by simp [Ideal.ofBits, Ideal.ieee, -EReal.coe_mul]; norm_num
theorem cTop : Ideal.ofBits .f32 0x7F800000#32 = ⊤ := by simp [Ideal.ofBits, Ideal.ieee]
theorem cBot : Ideal.ofBits .f32 0xFF800000#32 = ⊥ := by simp [Ideal.ofBits, Ideal.ieee]

/-! ## The first position of the largest score -/

/-- `c` is the first position at which the scores are largest. -/
def IsFirst (s : Fin 5 → EReal) (c : Fin 5) : Prop := ∀ d, s d ≤ s c ∧ (d < c → s d < s c)

/-- There is one. -/
theorem exists_first (s : Fin 5 → EReal) : ∃ c, IsFirst s c := by
  obtain ⟨m, -, hm⟩ := Finset.exists_max_image Finset.univ s ⟨0, Finset.mem_univ _⟩
  obtain ⟨c, hc, hmin⟩ := Finset.exists_min_image (Finset.univ.filter fun d => s d = s m) id ⟨m, by simp⟩
  have hcm : s c = s m := (Finset.mem_filter.mp hc).2
  refine ⟨c, fun d => ⟨hcm ▸ hm d (Finset.mem_univ _), fun hd => lt_of_le_of_ne (hcm ▸ hm d (Finset.mem_univ _)) fun e => ?_⟩⟩
  exact absurd (hmin d (by simp [e, hcm])) (not_le.mpr hd)

/-- The first position at which the scores are largest. -/
def first (s : Fin 5 → EReal) : Fin 5 := (exists_first s).choose

theorem first_spec (s : Fin 5 → EReal) : IsFirst s (first s) := (exists_first s).choose_spec

/-- The largest score, from below. -/
theorem fold_max_eq (s : Fin 5 → EReal) : Finset.fold max ⊥ s Finset.univ = s (first s) := by
  refine le_antisymm (Finset.fold_max_le _ |>.mpr ⟨bot_le, fun d _ => (first_spec s d).1⟩) ?_
  exact Finset.le_fold_max _ |>.mpr (Or.inr ⟨_, Finset.mem_univ _, le_rfl⟩)

/-- The first position as the smallest of the positions that hold the largest score. -/
theorem fold_min_first (s : Fin 5 → EReal) :
    Finset.fold min ⊤ (fun c : Fin 5 => if s c = s (first s) then (((c.val : ℕ) : ℝ) : EReal) else ((5 : ℝ) : EReal)) Finset.univ
      = (((first s).val : ℝ) : EReal) := by
  refine le_antisymm ?_ (Finset.le_fold_min _ |>.mpr ⟨le_top, fun d _ => ?_⟩)
  · exact Finset.fold_min_le _ |>.mpr (Or.inr ⟨first s, Finset.mem_univ _, by simp⟩)
  · split
    · rename_i h
      have : first s ≤ d := not_lt.mp fun hd => absurd h ((first_spec s d).2 hd).ne
      exact EReal.coe_le_coe_iff.mpr (by exact_mod_cast this)
    · exact EReal.coe_le_coe_iff.mpr (by have := (first s).isLt; exact_mod_cast this.le)

/-! ## One round of labels -/

section Labels
variable (C : Fin 4096 → Fin 4096 → Prop) [∀ i j, Decidable (C i j)]

/-- The smaller of a point's label and the labels of the points it is connected to. -/
def step (L : Fin 4096 → ℕ) (i : Fin 4096) : ℕ :=
  Finset.fold min (L i) (fun j => if C i j then L j else 4096) Finset.univ

/-- A number is at most the new label when it is at most the old one and at most every label passed on. -/
theorem le_step (L : Fin 4096 → ℕ) (i : Fin 4096) (c : ℕ) :
    c ≤ step C L i ↔ c ≤ L i ∧ ∀ j, c ≤ (if C i j then L j else 4096) := by
  simp [step, Finset.le_fold_min]

theorem step_le (L : Fin 4096 → ℕ) (i : Fin 4096) : step C L i ≤ L i := ((le_step C L i _).mp le_rfl).1

/-- The new label is the old one or one passed on. -/
theorem step_mem (L : Fin 4096 → ℕ) (hL : ∀ i, L i < 4096) (i : Fin 4096) : step C L i = L i ∨ ∃ j, C i j ∧ step C L i = L j := by
  by_contra h
  push Not at h
  have h1 : step C L i + 1 ≤ step C L i := by
    refine (le_step C L i _).mpr ⟨lt_of_le_of_ne (step_le C L i) h.1, fun j => ?_⟩
    have hb := ((le_step C L i _).mp le_rfl).2 j
    split
    · rename_i hc
      rw [if_pos hc] at hb
      exact lt_of_le_of_ne hb (h.2 j hc)
    · exact lt_of_le_of_lt (step_le C L i) (hL i)
  omega

end Labels

/-! ## Sixteen bands in turn -/

/-- A sum taken band by band. -/
theorem bands_sum (s : ℕ → EReal) (g : Fin 16 → EReal) (h0 : s 0 = 0) (hs : ∀ t : Fin 16, s (t.val + 1) = s t.val + g t) :
    s 16 = ∑ t, g t := by
  have key : ∀ k, k ≤ 16 → s k = ∑ t : Fin 16, if t.val < k then g t else 0 := by
    intro k
    induction k with
    | zero => intro _; simp [h0]
    | succ k ih =>
      intro hk
      have hk' : k < 16 := by omega
      rw [hs ⟨k, hk'⟩, ih (by omega)]
      have : g ⟨k, hk'⟩ = ∑ t : Fin 16, if t = ⟨k, hk'⟩ then g t else 0 := by simp
      rw [this, ← Finset.sum_add_distrib]
      refine Finset.sum_congr rfl fun t _ => ?_
      by_cases h : t = ⟨k, hk'⟩
      · subst h; simp
      · have h' : t.val ≠ k := fun e => h (Fin.ext e)
        rw [if_neg h, add_zero]
        exact if_congr (by omega) rfl rfl
  rw [key 16 le_rfl]
  exact Finset.sum_congr rfl fun t _ => if_pos t.isLt

/-- A minimum taken band by band, by its lower bounds. -/
theorem bands_min (s : ℕ → EReal) (b : EReal) (g : Fin 16 → EReal) (h0 : s 0 = b)
    (hs : ∀ t : Fin 16, s (t.val + 1) = min (s t.val) (g t)) (c : EReal) : c ≤ s 16 ↔ c ≤ b ∧ ∀ t, c ≤ g t := by
  have key : ∀ k, k ≤ 16 → (c ≤ s k ↔ c ≤ b ∧ ∀ t : Fin 16, t.val < k → c ≤ g t) := by
    intro k
    induction k with
    | zero => intro _; simp [h0]
    | succ k ih =>
      intro hk
      have hk' : k < 16 := by omega
      rw [hs ⟨k, hk'⟩, le_min_iff, ih (by omega)]
      constructor
      · rintro ⟨⟨h1, h2⟩, h3⟩
        refine ⟨h1, fun t ht => ?_⟩
        by_cases h : t.val = k
        · exact (Fin.ext h : t = ⟨k, hk'⟩) ▸ h3
        · exact h2 t (by omega)
      · rintro ⟨h1, h2⟩
        exact ⟨⟨h1, fun t ht => h2 t (by omega)⟩, h2 ⟨k, hk'⟩ (by simp)⟩
  rw [key 16 le_rfl]
  exact and_congr_right fun _ => ⟨fun h t => h t t.isLt, fun h t _ => h t⟩

/-- The points of the sixteen bands are all the points. -/
theorem sum_points (f : Fin 4096 → EReal) : (∑ t : Fin 16, ∑ x : Fin 256, f ⟨256 * t.val + x.val, by omega⟩) = ∑ i, f i := by
  rw [← Fintype.sum_prod_type']
  exact Fintype.sum_equiv (finProdFinEquiv : Fin 16 × Fin 256 ≃ Fin 4096) _ _ fun a =>
    congrArg f (Fin.ext (Nat.add_comm _ _))

/-- Every point lies in a band. -/
theorem forall_points (P : Fin 4096 → Prop) : (∀ t : Fin 16, ∀ x : Fin 256, P ⟨256 * t.val + x.val, by omega⟩) ↔ ∀ i, P i := by
  refine ⟨fun h i => ?_, fun h t x => h _⟩
  have := h ⟨i.val / 256, by omega⟩ ⟨i.val % 256, by omega⟩
  have e : (⟨256 * (i.val / 256) + i.val % 256, by omega⟩ : Fin 4096) = i := Fin.ext (Nat.div_add_mod _ _)
  exact e ▸ this

end Cert.Val

end
-- ==== Proof.Val.Near.lean ====
/-
  The kernel's adjacency matrix and core flags over the extended reals: an entry of the matrix is one exactly where two
  points are near, and a flag is one exactly where at least three points are near.
-/
module

public import proofs.«01_k».proof.Proof.KI.Model
public import proofs.«01_k».proof.Proof.Val.Math

@[expose] public section

set_option maxRecDepth 16384

noncomputable section

namespace Cert.Val

open Cert.KernelIdeal Cert.KernelIdeal.Gen Cert.KernelIdeal.Run
open Idealize.ShloMosaic

/-- Two spellings of the index at two coordinates. -/
theorem ix_eq {n0 n1 : ℕ} (a : Fin n0) (b : Fin n1) : ValueIdx.ix2 a b = ix2 a b :=
  funext fun i => match i with | ⟨0, _⟩ => rfl | ⟨1, _⟩ => rfl

/-- Any index is the index at its coordinates. -/
theorem ix_eta {n0 n1 : ℕ} (y : (⟨2, ![n0, n1]⟩ : Shape).Idx) : y = ix2 (y 0 : Fin n0) (y 1 : Fin n1) :=
  funext fun i => match i with | ⟨0, _⟩ => rfl | ⟨1, _⟩ => rfl

/-- The conjunction of two bits. -/
theorem ofBool_andi (a b : Bool) : IntOp.andi (BitVec.ofBool a) (BitVec.ofBool b) = BitVec.ofBool (a && b) := by
  cases a <;> cases b <;> rfl

/-- A small number as a word, read back as an integer. -/
theorem toInt_small (n : ℕ) (h : n < 2 ^ 31) : (BitVec.ofNat 32 n).toInt = (n : ℤ) := by
  rw [BitVec.toInt_eq_toNat_of_lt (by simp; omega)]; simp; omega

/-- A small number as a word, read back as a real. -/
theorem sitofp_ofNat (n : ℕ) (h : n < 2 ^ 31) :
    (FloatOps.sitofp (F := Ideal) .f32 (BitVec.ofNat 32 n) : EReal) = ((n : ℝ) : EReal) := by
  show (((BitVec.ofNat 32 n).toInt : ℝ) : EReal) = _
  rw [toInt_small n h]; norm_cast

section Bands
variable {α : Type} {n : ℕ}

theorem bandCol_apply (f : (⟨2, ![4096, n]⟩ : Shape).Idx → α) (t : Fin 16) (d : Fin n) (x : Fin 256) :
    bandCol f t d (ix2 x 0) = f (ix2 (pt t x) d) := congrArg f (ix_eq _ _)
theorem band_apply (f : (⟨2, ![4096, n]⟩ : Shape).Idx → α) (t : Fin 16) (x : Fin 256) (d : Fin n) :
    band f t (ix2 x d) = f (ix2 (pt t x) d) := congrArg f (ix_eq _ _)
theorem rowAt_apply (f : (⟨2, ![n, 4096]⟩ : Shape).Idx → α) (d : Fin n) (j : Fin 4096) :
    rowAt f d (ix2 0 j) = f (ix2 d j) := congrArg f (ix_eq _ _)
theorem lanes_apply (f : (⟨2, ![1, 4096]⟩ : Shape).Idx → α) (t : Fin 16) (x : Fin 256) :
    lanes f t (ix2 0 x) = f (ix2 0 (pt t x)) := congrArg f (ix_eq _ _)
theorem glue_apply (B : Fin 16 → (⟨2, ![256, n]⟩ : Shape).Idx → α) (i : Fin 4096) (d : Fin n) :
    glue B (ix2 i d) = B (bandOf i) (ix2 (placeOf i) d) := congrArg (B (bandOf i)) (ix_eq _ _)
/-- A point is at its place in its band. -/
theorem pt_band (i : Fin 4096) : pt (bandOf i) (placeOf i) = i := Fin.ext (Nat.div_add_mod _ _)

end Bands

section
variable (x0 : Vec Ideal S4096x6 .f32) (x1 : Vec Ideal S4096x5 .f32)

/-- The squared distance of two points. -/
def sq (i j : Fin 4096) : EReal :=
  ((x0 (ix2 i 1) : EReal) - x0 (ix2 j 1)) * (x0 (ix2 i 1) - x0 (ix2 j 1))
    + (x0 (ix2 i 2) - x0 (ix2 j 2)) * (x0 (ix2 i 2) - x0 (ix2 j 2))
    + (x0 (ix2 i 3) - x0 (ix2 j 3)) * (x0 (ix2 i 3) - x0 (ix2 j 3))

/-- The batch of a point. -/
def batch (i : Fin 4096) : EReal := x0 (ix2 i 0)
/-- The class of a point. -/
def kind (i : Fin 4096) : Fin 5 := first fun d => x1 (ix2 i d)

/-- Two points are near. -/
def Near (i j : Fin 4096) : Prop :=
  sq x0 i j ≤ Ideal.ofBits .f32 0x40670A3D#32 ∧ batch x0 i = batch x0 j ∧ kind x1 i = kind x1 j

instance (i j : Fin 4096) : Decidable (Near x0 x1 i j) := Classical.propDecidable _

/-- The square of a difference does not depend on its direction. -/
theorem sub_sq_comm (a b : EReal) : (a - b) * (a - b) = (b - a) * (b - a) := by
  induction a <;> induction b <;> simp [← EReal.coe_sub, ← EReal.coe_mul]
  ring_nf

theorem near_symm {i j : Fin 4096} (h : Near x0 x1 i j) : Near x0 x1 j i := by
  refine ⟨?_, h.2.1.symm, h.2.2.symm⟩
  have := h.1
  unfold sq at this ⊢
  rwa [sub_sq_comm (x0 (ix2 j 1)), sub_sq_comm (x0 (ix2 j 2)), sub_sq_comm (x0 (ix2 j 3))]

/-- Every point's batch is one of four numbers. -/
def Drawn : Prop := ∀ i, ∃ n : ℕ, n < 4 ∧ batch x0 i = ((n : ℝ) : EReal)

end

/-- The first position of the largest score as the kernel computes it. -/
theorem first_key (s : Fin 5 → EReal) :
    Finset.fold min (Ideal.ofBits .f32 0x7F800000#32) (fun c : Fin 5 =>
      if s c = Finset.fold max (Ideal.ofBits .f32 0xFF800000#32) (fun d => s d) Finset.univ
        then (FloatOps.sitofp (F := Ideal) .f32 (BitVec.ofNat 32 c.val) : EReal) else Ideal.ofBits .f32 0x40A00000#32) Finset.univ
      = (((first s).val : ℝ) : EReal) := by
  rw [cTop, cBot, c5, ← fold_min_first]
  refine congrArg (fun f => Finset.fold min ⊤ f Finset.univ) (funext fun c => ?_)
  rw [fold_max_eq, sitofp_ofNat _ (by omega)]

/-- The class as the kernel computes it from the rows of scores. -/
theorem pay3_apply (x1 : Vec Ideal S4096x5 .f32) (i : Fin 4096) : k0_pay3 x1 (ix2 i 0) = (((kind x1 i).val : ℝ) : EReal) := by
  unfold k0_pay3
  pointwise
  exact first_key _

/-- The key, batch times eight plus class, as the kernel computes it for the row of all points. -/
theorem pay16_apply (x3 : Vec Ideal S5x4096 .f32) (b : Vec Ideal S1x4096 .f32) (j : Fin 4096) :
    k0_pay16 x3 b (ix2 0 j) = b (ix2 0 j) * ((8 : ℝ) : EReal) + (((first fun d => x3 (ix2 d j)).val : ℝ) : EReal) := by
  unfold k0_pay16
  pointwise
  rw [c8]
  exact congrArg (b (ix2 0 j) * ((8 : ℝ) : EReal) + ·) (first_key fun d => x3 (ix2 d j))

/-- One adjacency bit as the kernel computes it: close enough, and of one key. -/
theorem pay14_apply (k a b c : FVec Ideal S1x4096 .f32) (e f g : Vec Ideal S256x1 .f32) (s : Vec Ideal S256x5 .f32) (h : Vec Ideal S256x1 .f32)
   (x : Fin 256) (j : Fin 4096) : k0_pay14 k a b c e f g s h (ix2 x j) =
     BitVec.ofBool (decide ((e (ix2 x 0) - a (ix2 0 j)) * (e (ix2 x 0) - a (ix2 0 j)) + (f (ix2 x 0) - b (ix2 0 j)) * (f (ix2 x 0) - b (ix2 0 j))
       + (g (ix2 x 0) - c (ix2 0 j)) * (g (ix2 x 0) - c (ix2 0 j)) ≤ Ideal.ofBits .f32 0x40670A3D#32
       ∧ (h (ix2 x 0) : EReal) * ((8 : ℝ) : EReal) + (((first fun d => s (ix2 x d)).val : ℝ) : EReal) = k (ix2 0 j))) := by
  unfold k0_pay14
  pointwise
  rw [c8, Bool.decide_and]
  refine (congrArg (fun z => IntOp.andi _ (BitVec.ofBool (decide ((h (ix2 x 0) : EReal) * ((8 : ℝ) : EReal) + z = k (ix2 0 j)))))
    (first_key fun d => s (ix2 x d))).trans ?_
  exact ofBool_andi _ _

/-! ## The adjacency bits -/

section
variable (x0 : Vec Ideal S4096x6 .f32) (x1 : Vec Ideal S4096x5 .f32)

/-- The first argument turned on its side. -/
def turn0 : Vec Ideal S6x4096 .f32 := transpose S6x4096 [1, 0] x0 transposes_S4096x6_S6x4096_1_0
/-- The second argument turned on its side. -/
def turn1 : Vec Ideal S5x4096 .f32 := transpose S5x4096 [1, 0] x1 transposes_S4096x5_S5x4096_1_0

theorem turn0_apply (d : Fin 6) (j : Fin 4096) : turn0 x0 (ix2 d j) = x0 (ix2 j d) := by
  unfold turn0
  pointwise

theorem turn1_apply (d : Fin 5) (j : Fin 4096) : turn1 x1 (ix2 d j) = x1 (ix2 j d) := by
  unfold turn1
  pointwise

/-- Two keys are equal exactly when the batches and the classes are, each batch being one of four numbers. -/
theorem key_eq_iff (hB : Drawn x0) (i j : Fin 4096) (a b : Fin 5) :
    (batch x0 i * ((8 : ℝ) : EReal) + ((a.val : ℝ) : EReal) = batch x0 j * ((8 : ℝ) : EReal) + ((b.val : ℝ) : EReal))
      ↔ batch x0 i = batch x0 j ∧ a = b := by
  obtain ⟨n, hn, en⟩ := hB i
  obtain ⟨k, hk, ek⟩ := hB j
  rw [en, ek, Fin.ext_iff]
  norm_cast
  omega

/-- An adjacency bit of a band says whether the two points are near. -/
theorem adjBits_apply (hB : Drawn x0) (t : Fin 16) (x : Fin 256) (j : Fin 4096) :
    adjBits x0 (turn0 x0) x1 (turn1 x1) t (ix2 x j) = BitVec.ofBool (decide (Near x0 x1 (pt t x) j)) := by
  unfold adjBits k0_pay17 k0_pay18 k0_pay19
  rw [pay14_apply, pay16_apply]
  pointwise
  simp only [bandCol_apply, rowAt_apply, band_apply, turn0_apply, turn1_apply]
  refine congrArg BitVec.ofBool (decide_eq_decide.mpr (and_congr_right fun _ => ?_))
  exact key_eq_iff x0 hB (pt t x) j (kind x1 (pt t x)) (kind x1 j)

/-- An entry of the adjacency matrix says whether the two points are near. -/
theorem adj_apply (hB : Drawn x0) (i j : Fin 4096) :
    adj x0 (turn0 x0) x1 (turn1 x1) (ix2 i j) = BitVec.setWidth 8 (BitVec.ofBool (decide (Near x0 x1 i j))) := by
  have h : adj x0 (turn0 x0) x1 (turn1 x1) (ix2 i j) = BitVec.setWidth 8 (adjBits x0 (turn0 x0) x1 (turn1 x1) (bandOf i) (ix2 (placeOf i) j)) := by
    unfold adj
    rw [glue_apply]
    unfold adjBytes k0_pay21 k0_pay15
    pointwise
    rfl
  rw [h, adjBits_apply x0 x1 hB, pt_band]

/-! ## The core flags -/

/-- How many points are near one. -/
def count (i : Fin 4096) : ℕ := (Finset.univ.filter fun j => Near x0 x1 i j).card

/-- At least three points are near one. -/
def Core (i : Fin 4096) : Prop := 3 ≤ count x0 x1 i

instance (i : Fin 4096) : Decidable (Core x0 x1 i) := inferInstanceAs (Decidable (3 ≤ _))

/-- A bit as a real. -/
theorem sitofp_bit (p : Prop) [Decidable p] :
    (FloatOps.sitofp (F := Ideal) .f32 (BitVec.setWidth 32 (BitVec.ofBool (decide p))) : EReal) = if p then 1 else 0 := by
  show ((((BitVec.setWidth 32 (BitVec.ofBool (decide p))).toInt : ℝ)) : EReal) = _
  by_cases h : p <;> simp [h]

/-- Three is at most a count of ones when it is at most their number. -/
theorem three_le_count (p : Fin 4096 → Prop) [DecidablePred p] :
    (Ideal.ofBits .f32 0x40400000#32 ≤ ∑ j, if p j then (1 : EReal) else 0) ↔ 3 ≤ (Finset.univ.filter p).card := by
  rw [c3, Finset.sum_boole]
  norm_cast

/-- A core flag of the column. -/
theorem coreCol_apply (hB : Drawn x0) (i : Fin 4096) :
    coreCol x0 (turn0 x0) x1 (turn1 x1) (ix2 i 0) = if Core x0 x1 i then (1 : EReal) else 0 := by
  unfold coreCol
  rw [glue_apply]
  unfold k0_pay23 k0_pay22
  pointwise
  simp only [adjBits_apply x0 x1 hB, pt_band, sitofp_bit]
  exact if_congr (three_le_count _) rfl rfl

/-- The counts down the columns, before the threshold. -/
theorem counts_apply (hB : Drawn x0) (j : Fin 4096) :
    counts x0 (turn0 x0) x1 (turn1 x1) 16 (ix2 0 j) = ∑ i, if Near x0 x1 j i then (1 : EReal) else 0 := by
  rw [← sum_points]
  refine bands_sum (fun k => counts x0 (turn0 x0) x1 (turn1 x1) k (ix2 0 j)) _ ?_ fun t => ?_
  · show k0_pay20 (F := Ideal) (ix2 0 j) = 0
    unfold k0_pay20
    pointwise
  · show counts x0 (turn0 x0) x1 (turn1 x1) (t.val + 1) (ix2 0 j) = _
    rw [counts_succ]
    unfold k0_pay24 k0_pay22
    pointwise
    simp only [adjBits_apply x0 x1 hB, sitofp_bit]
    refine congrArg _ (Finset.sum_congr rfl fun x _ => if_congr ?_ rfl rfl)
    exact ⟨near_symm x0 x1, near_symm x0 x1⟩

/-- A core flag of the row. -/
theorem coreRow_apply (hB : Drawn x0) (j : Fin 4096) :
    coreRow x0 (turn0 x0) x1 (turn1 x1) (ix2 0 j) = if Core x0 x1 j then (1 : EReal) else 0 := by
  unfold coreRow k0_pay25
  pointwise
  rw [counts_apply x0 x1 hB, sitofp_bit]
  exact if_congr (three_le_count _) rfl rfl

end

end Cert.Val

end
-- ==== Proof.Val.Labels.lean ====
/-
  The kernel's label loop over the extended reals: the column and the row hold the same natural numbers, a sweep is one
  round of labels, and stopping early changes nothing, because a sweep that changes no label never will.
-/
module

public import proofs.«01_k».proof.Proof.Val.Near

@[expose] public section

set_option maxRecDepth 16384

noncomputable section

namespace Cert.Val

open Cert.KernelIdeal Cert.KernelIdeal.Gen Cert.KernelIdeal.Run
open Idealize.ShloMosaic

/-- A column that holds natural numbers. -/
def IsCol (lc : Vec Ideal S4096x1 .f32) (L : Fin 4096 → ℕ) : Prop := ∀ i, lc (ix2 i 0) = ((L i : ℝ) : EReal)
/-- A row that holds natural numbers. -/
def IsRow (lr : Vec Ideal S1x4096 .f32) (L : Fin 4096 → ℕ) : Prop := ∀ i, lr (ix2 0 i) = ((L i : ℝ) : EReal)

/-- A natural number as an extended real keeps minima. -/
theorem coe_min (a b : ℕ) : (((min a b : ℕ) : ℝ) : EReal) = min ((a : ℝ) : EReal) ((b : ℝ) : EReal) := by
  rcases le_total a b with h | h
  · rw [min_eq_left h, min_eq_left (by exact_mod_cast h)]
  · rw [min_eq_right h, min_eq_right (by exact_mod_cast h)]

/-- The lower bounds of a new label. -/
theorem le_step_coe (C : Fin 4096 → Fin 4096 → Prop) [∀ i j, Decidable (C i j)] (L : Fin 4096 → ℕ) (i : Fin 4096) (c : EReal) :
    c ≤ ((step C L i : ℝ) : EReal) ↔ c ≤ ((L i : ℝ) : EReal) ∧ ∀ j, c ≤ (((if C i j then L j else 4096 : ℕ) : ℝ) : EReal) := by
  unfold step
  rw [← Finset.fold_hom (op := min) (op' := min) (m := fun n : ℕ => ((n : ℝ) : EReal)) (fun a b => (coe_min a b)), Finset.le_fold_min]
  simp

/-- A masked label: the label where the two bits are set, 4096 elsewhere. -/
theorem masked (p q : Prop) [Decidable p] [Decidable q] (l : ℕ) :
    (FloatOps.sitofp (F := Ideal) .f32 (BitVec.setWidth 8 (BitVec.ofBool (decide p))) : EReal)
        * ((if Ideal.ofBits .f32 0x3F000000#32 < (if q then (1 : EReal) else 0) then ((l : ℝ) : EReal) else Ideal.ofBits .f32 0x45800000#32)
            - Ideal.ofBits .f32 0x45800000#32)
        + Ideal.ofBits .f32 0x45800000#32
      = (((if p ∧ q then l else 4096 : ℕ) : ℝ) : EReal) := by
  have hb : (FloatOps.sitofp (F := Ideal) .f32 (BitVec.setWidth 8 (BitVec.ofBool (decide p))) : EReal) = if p then 1 else 0 := by
    show ((((BitVec.setWidth 8 (BitVec.ofBool (decide p))).toInt : ℝ)) : EReal) = _
    by_cases h : p <;> simp [h]
  have h1 : ((1 / 2 : ℝ) : EReal) < 1 := by exact_mod_cast (by norm_num : (1 / 2 : ℝ) < 1)
  have h0 : ¬ ((1 / 2 : ℝ) : EReal) < 0 := by exact_mod_cast (by norm_num : ¬ (1 / 2 : ℝ) < 0)
  rw [hb, cHalf, c4096]
  by_cases hp : p <;> by_cases hq : q
  · rw [if_pos hp, if_pos hq, if_pos h1, if_pos ⟨hp, hq⟩, one_mul, ← EReal.coe_sub, ← EReal.coe_add, sub_add_cancel]
  · rw [if_pos hp, if_neg hq, if_neg h0, if_neg (fun h : p ∧ q => hq h.2), one_mul, ← EReal.coe_sub, ← EReal.coe_add, sub_add_cancel]; norm_cast
  · rw [if_neg hp, if_neg (fun h : p ∧ q => hp h.1), zero_mul, zero_add]; norm_cast
  · rw [if_neg hp, if_neg (fun h : p ∧ q => hp h.1), zero_mul, zero_add]; norm_cast

section
variable (x0 : Vec Ideal S4096x6 .f32) (x1 : Vec Ideal S4096x5 .f32)

/-- A label passes from the second point to the first. -/
def Conn (i j : Fin 4096) : Prop := Near x0 x1 i j ∧ Core x0 x1 j

instance (i j : Fin 4096) : Decidable (Conn x0 x1 i j) := inferInstanceAs (Decidable (_ ∧ _))

variable (hB : Drawn x0) (lc : Vec Ideal S4096x1 .f32) (lr : Vec Ideal S1x4096 .f32) (L : Fin 4096 → ℕ)
  (hc : IsCol lc L) (hr : IsRow lr L)

/-- The kernel's adjacency matrix. -/
abbrev kAdj := adj x0 (turn0 x0) x1 (turn1 x1)
/-- The kernel's core flags as a column. -/
abbrev kCol := coreCol x0 (turn0 x0) x1 (turn1 x1)
/-- The kernel's core flags as a row. -/
abbrev kRow := coreRow x0 (turn0 x0) x1 (turn1 x1)

include hB in
theorem kAdj_apply (i j : Fin 4096) : kAdj x0 x1 (ix2 i j) = BitVec.setWidth 8 (BitVec.ofBool (decide (Near x0 x1 i j))) :=
  adj_apply x0 x1 hB i j
include hB in
theorem kCol_apply (i : Fin 4096) : kCol x0 x1 (ix2 i 0) = if Core x0 x1 i then (1 : EReal) else 0 := coreCol_apply x0 x1 hB i
include hB in
theorem kRow_apply (j : Fin 4096) : kRow x0 x1 (ix2 0 j) = if Core x0 x1 j then (1 : EReal) else 0 := coreRow_apply x0 x1 hB j

include hB hc hr in
/-- The column after one sweep. -/
theorem sweepCol_isCol : IsCol (sweepCol (kAdj x0 x1) (kRow x0 x1) lc lr) (step (Conn x0 x1) L) := by
  intro i
  unfold sweepCol
  rw [glue_apply]
  unfold k0_pay9 k0_pay8
  pointwise
  simp only [band_apply, pt_band]
  refine eq_of_forall_le_iff fun c => ?_
  rw [le_step_coe, le_min_iff, Finset.le_fold_min, hc i]
  refine and_congr_right fun _ => ⟨fun h j => ?_, fun h => ⟨cTop ▸ le_top, fun j _ => ?_⟩⟩
  · have := h.2 j (Finset.mem_univ _)
    rwa [kAdj_apply x0 x1 hB, kRow_apply x0 x1 hB, hr j, masked] at this
  · rw [kAdj_apply x0 x1 hB, kRow_apply x0 x1 hB, hr j, masked]
    exact h j

include hB hc in
/-- The lower bounds of a lane's smallest label. -/
theorem le_laneMin (j : Fin 4096) (c : EReal) :
    c ≤ laneMin (kAdj x0 x1) (kCol x0 x1) lc 16 (ix2 0 j)
      ↔ c ≤ ((4096 : ℝ) : EReal) ∧ ∀ i, c ≤ (((if Conn x0 x1 j i then L i else 4096 : ℕ) : ℝ) : EReal) := by
  rw [← forall_points]
  have := bands_min (fun k => laneMin (kAdj x0 x1) (kCol x0 x1) lc k (ix2 0 j)) ((4096 : ℝ) : EReal)
    (fun t => Finset.fold min ⊤ (fun x => (((if Conn x0 x1 j (pt t x) then L (pt t x) else 4096 : ℕ) : ℝ) : EReal)) Finset.univ) ?_ ?_ c
  · rw [this]
    simp [Finset.le_fold_min]
  · show k0_pay7 (F := Ideal) (ix2 0 j) = _
    unfold k0_pay7
    pointwise
    exact c4096
  · intro t
    show laneMin _ _ lc (t.val + 1) (ix2 0 j) = _
    rw [laneMin_succ]
    unfold k0_pay10 k0_pay8
    pointwise
    simp only [band_apply]
    rw [cTop]
    refine congrArg _ (congrArg (fun f => Finset.fold min ⊤ f Finset.univ) (funext fun x => ?_))
    rw [kAdj_apply x0 x1 hB, kCol_apply x0 x1 hB, hc, masked]
    exact congrArg (fun n : ℕ => ((n : ℝ) : EReal)) (if_congr (and_congr_left fun _ => ⟨near_symm x0 x1, near_symm x0 x1⟩) rfl rfl)

variable (hL : ∀ i, L i ≤ 4096)

include hB hc hr hL in
/-- The smaller of a lane's label and the smallest passed to it is its new label. -/
theorem min_lane (j : Fin 4096) :
    min (lr (ix2 0 j)) (laneMin (kAdj x0 x1) (kCol x0 x1) lc 16 (ix2 0 j)) = ((step (Conn x0 x1) L j : ℝ) : EReal) := by
  refine eq_of_forall_le_iff fun c => ?_
  rw [le_step_coe, le_min_iff, le_laneMin x0 x1 hB lc L hc, hr j]
  refine and_congr_right fun h => and_iff_right (h.trans ?_)
  exact EReal.coe_le_coe_iff.mpr (by exact_mod_cast hL j)

include hB hc hr hL in
/-- The row after one sweep. -/
theorem sweepRow_isRow : IsRow (sweepRow (kAdj x0 x1) (kCol x0 x1) lc lr) (step (Conn x0 x1) L) := by
  intro j
  unfold sweepRow k0_pay12 k0_pay11
  pointwise
  exact min_lane x0 x1 hB lc lr L hc hr hL j

include hB hc hr hL in
/-- A sweep that the flag says changed nothing changed nothing. -/
theorem not_changed (h : changed (kAdj x0 x1) (kCol x0 x1) lc lr ≠ 1#1) : step (Conn x0 x1) L = L := by
  unfold changed k0_pay13 k0_pay11 at h
  pointwise at h
  funext j
  refine le_antisymm (step_le _ L j) ?_
  by_contra hlt
  refine h (congrArg BitVec.ofBool (decide_eq_true ?_))
  refine Finset.lt_fold_max _ |>.mpr (Or.inr ⟨(0, j), Finset.mem_univ _, ?_⟩)
  show (0 : EReal) < lr (ix2 0 j) - min (lr (ix2 0 j)) (laneMin (kAdj x0 x1) (kCol x0 x1) lc 16 (ix2 0 j))
  rw [min_lane x0 x1 hB lc lr L hc hr hL, hr j, ← EReal.coe_sub]
  exact EReal.coe_pos.mpr (sub_pos.mpr (by exact_mod_cast not_le.mp hlt))

/-- The labels stay at most 4096. -/
theorem step_bound (C : Fin 4096 → Fin 4096 → Prop) [∀ i j, Decidable (C i j)] (M : Fin 4096 → ℕ) (hM : ∀ i, M i ≤ 4096) (i : Fin 4096) :
    step C M i ≤ 4096 := (step_le C M i).trans (hM i)

include hB in
/-- After at most `n` sweeps the column and the row hold the labels of `n` rounds. -/
theorem sweeps_spec : ∀ (n : ℕ) (fl : BitVec 1) (s : Vec Ideal S4096x1 .f32 × Vec Ideal S1x4096 .f32) (L : Fin 4096 → ℕ),
    IsCol s.1 L → IsRow s.2 L → (∀ i, L i ≤ 4096) → (fl ≠ 1#1 → step (Conn x0 x1) L = L) →
    IsRow (sweeps (kAdj x0 x1) (kCol x0 x1) (kRow x0 x1) n fl s).2 ((step (Conn x0 x1))^[n] L)
  | 0, _, _, _, _, hr, _, _ => hr
  | n + 1, fl, s, L, hc, hr, hL, hf => by
    rw [sweeps, Function.iterate_succ_apply]
    by_cases h : fl = 1#1
    · rw [if_pos h]
      refine sweeps_spec n _ _ (step (Conn x0 x1) L) (sweepCol_isCol x0 x1 hB s.1 s.2 L hc hr)
        (sweepRow_isRow x0 x1 hB s.1 s.2 L hc hr hL) (step_bound _ L hL) fun hch => ?_
      have := not_changed x0 x1 hB s.1 s.2 L hc hr hL hch
      rw [this, this]
    · rw [if_neg h, hf h, Function.iterate_fixed (hf h)]
      exact hr

/-- The labels: twenty rounds from the points' own numbers. -/
def lab : Fin 4096 → ℕ := (step (Conn x0 x1))^[20] fun i => i.val

include hB in
/-- The row the kernel's loop ends with holds the labels. -/
theorem final_isRow : IsRow (finalLabels x0 (turn0 x0) x1 (turn1 x1)).2 (lab x0 x1) := by
  refine sweeps_spec x0 x1 hB 20 1#1 _ (fun i => i.val) (fun i => ?_) (fun i => ?_) (fun i => i.isLt.le) fun h => absurd rfl h
  · show k0_pay1 (k0_pay26 (F := Ideal)) (ix2 i 0) = _
    unfold k0_pay1 k0_pay26
    pointwise
    exact sitofp_ofNat _ (by omega)
  · show k0_pay2 (F := Ideal) (ix2 0 i) = _
    unfold k0_pay2
    pointwise
    exact sitofp_ofNat _ (by omega)

/-! ## Labels are points of one batch and one class -/

/-- A label is the number of a point with the same batch and class. -/
def Good (M : Fin 4096 → ℕ) : Prop := ∀ i, ∃ p : Fin 4096, M i = p.val ∧ batch x0 p = batch x0 i ∧ kind x1 p = kind x1 i

theorem good_step (M : Fin 4096 → ℕ) (h : Good x0 x1 M) : Good x0 x1 (step (Conn x0 x1) M) := by
  intro i
  have hM : ∀ i, M i < 4096 := fun i => by obtain ⟨p, hp, -⟩ := h i; omega
  rcases step_mem (Conn x0 x1) M hM i with e | ⟨j, hj, e⟩
  · rw [e]; exact h i
  · obtain ⟨p, hp, hb, hk⟩ := h j
    exact ⟨p, e.trans hp, hb.trans hj.1.2.1.symm, hk.trans hj.1.2.2.symm⟩

theorem lab_good : Good x0 x1 (lab x0 x1) := by
  unfold lab
  generalize 20 = n
  induction n with
  | zero => exact fun i => ⟨i, rfl, rfl, rfl⟩
  | succ n ih => rw [Function.iterate_succ_apply']; exact good_step x0 x1 _ ih

theorem lab_lt (i : Fin 4096) : lab x0 x1 i < 4096 := by obtain ⟨p, hp, -⟩ := lab_good x0 x1 i; omega

end

end Cert.Val

end
-- ==== Proof.Val.Ref.lean ====
/-
  The reference over the extended reals: its classes, its near bits, its core bits, its labels as natural numbers, and
  its four results.
-/
module

public import proofs.«01_k».proof.Proof.Ref.Run
public import proofs.«01_k».proof.Proof.Val.Labels
public import Idealize.ShloMosaic.Lib.Routing.OpsPair
public import Idealize.ShloMosaic.Lib.Routing.OpsSearch

@[expose] public section

set_option maxRecDepth 16384

noncomputable section

namespace Cert.Val

open Cert.ReferenceIdeal Cert.ReferenceIdeal.Gen
open Idealize.ShloMosaic

/-! ## The class -/

/-- One pair of a score and its position beats or equals another: a larger score, or the same score not later. -/
def Beats (a b : EReal × BitVec 32) : Prop := b.1 < a.1 ∨ b.1 = a.1 ∧ a.2.toInt ≤ b.2.toInt

theorem Beats.refl (a : EReal × BitVec 32) : Beats a a := Or.inr ⟨rfl, le_rfl⟩

theorem Beats.trans {a b c : EReal × BitVec 32} (h : Beats a b) (k : Beats b c) : Beats a c := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- The reference's choice between two pairs is one of them, and beats both. -/
theorem reducer_spec (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨u, i⟩ := a
  obtain ⟨v, j⟩ := b
  have key : reducer_argmax_f32_i32 (F := Ideal) (u, i) (v, j)
      = if v < u then (u, i) else if u = v ∧ i.toInt < j.toInt then (u, i) else (v, j) := by
    unfold reducer_argmax_f32_i32
    dsimp only
    pointwise
    have hs : IntOp.cmpi .slt i j = BitVec.ofBool (decide (i.toInt < j.toInt)) := by
      show BitVec.ofBool (i.slt j) = _
      rw [BitVec.slt_eq_decide]
    rw [hs]
    by_cases h1 : v < u <;> by_cases h2 : u = v <;> by_cases h3 : i.toInt < j.toInt <;>
      simp [h1, h2, h3, Scalar.select, IntOp.ori, IntOp.andi]
  rw [key]
  unfold Beats
  split
  · rename_i h
    exact ⟨Or.inl rfl, Or.inr ⟨rfl, le_rfl⟩, Or.inl h⟩
  · rename_i h
    split
    · rename_i h'
      exact ⟨Or.inl rfl, Or.inr ⟨rfl, le_rfl⟩, Or.inr ⟨h'.1.symm, h'.2.le⟩⟩
    · rename_i h'
      refine ⟨Or.inr rfl, ?_, Or.inr ⟨rfl, le_rfl⟩⟩
      rcases lt_or_eq_of_le (not_lt.mp h) with e | e
      · exact Or.inl e
      · exact Or.inr ⟨e, not_lt.mp fun k => h' ⟨e, k⟩⟩

/-- A fold of such choices is one of the pairs, and beats all of them. -/
theorem foldl_spec (l : List (EReal × BitVec 32)) (a : EReal × BitVec 32) :
    (l.foldl (reducer_argmax_f32_i32 (F := Ideal)) a = a ∨ l.foldl (reducer_argmax_f32_i32 (F := Ideal)) a ∈ l)
      ∧ Beats (l.foldl (reducer_argmax_f32_i32 (F := Ideal)) a) a ∧ ∀ p ∈ l, Beats (l.foldl (reducer_argmax_f32_i32 (F := Ideal)) a) p := by
  induction l generalizing a with
  | nil => exact ⟨Or.inl rfl, Beats.refl a, by simp⟩
  | cons b l ih =>
    obtain ⟨h1, h2, h3⟩ := ih (reducer_argmax_f32_i32 (F := Ideal) a b)
    obtain ⟨k1, k2, k3⟩ := reducer_spec a b
    rw [List.foldl_cons]
    refine ⟨?_, h2.trans k2, fun p hp => ?_⟩
    · rcases h1 with h1 | h1
      · rcases k1 with k1 | k1
        · exact Or.inl (h1.trans k1)
        · exact Or.inr (by rw [h1, k1]; exact List.mem_cons_self)
      · exact Or.inr (List.mem_cons_of_mem _ h1)
    · rcases List.mem_cons.mp hp with rfl | hp
      · exact h2.trans k3
      · exact h3 p hp

section
variable (x0 : Vec Ideal S4096x6 .f32) (x1 : Vec Ideal S4096x5 .f32)

/-- The pairs folded over for one point. -/
theorem mem_fiber (i : Fin 4096) (p : EReal × BitVec 32) :
    p ∈ Host.argReduceFiber (α := EReal) x1 (iotaInDim S4096x5 32 1) reducesTo_S4096x5_S4096_d1 (ix1 i)
      ↔ ∃ d : Fin 5, p = ((x1 (ix2 i d) : EReal), BitVec.ofNat 32 d.val) := by
  have hd : ∀ y : S4096x5.Idx, reducesTo_S4096x5_S4096_d1.drop y = ix1 i ↔ y 0 = i := by
    intro y
    have hv := Shape.ReducesTo.drop_apply_val_of_eq reducesTo_S4096x5_S4096_d1 y 0 0
    constructor
    · intro h
      exact Fin.ext (hv.symm.trans (congrArg (fun z : S4096.Idx => (z 0).val) h))
    · intro h
      refine funext fun b => ?_
      obtain rfl : b = 0 := Subsingleton.elim _ _
      exact Fin.ext (hv.trans (congrArg Fin.val h))
  unfold Host.argReduceFiber
  simp only [List.mem_map, List.mem_filter, List.mem_finRange, true_and, decide_eq_true_eq]
  constructor
  · rintro ⟨n, hn, rfl⟩
    refine ⟨S4096x5.rowMajor.symm n 1, Prod.ext ?_ rfl⟩
    rw [hd] at hn
    exact congrArg x1 ((ix_eta (n0 := 4096) (n1 := 5) _).trans (congrArg (fun a => ix2 a _) hn))
  · rintro ⟨d, rfl⟩
    refine ⟨S4096x5.rowMajor (ix2 i d), ?_, ?_⟩
    · rw [Equiv.symm_apply_apply, hd]; rfl
    · rw [Equiv.symm_apply_apply]; rfl

/-- The class as the reference computes it. -/
theorem cls_apply (i : Fin 4096) : Run.cls x1 (ix1 i) = BitVec.ofNat 32 (kind x1 i).val := by
  unfold Run.cls
  rw [Ideal.argReduce_eq_reduce2, Host.reduce2_eq_foldl_fiber]
  obtain ⟨hm, -, hb⟩ := foldl_spec (Host.argReduceFiber (α := EReal) x1 (iotaInDim S4096x5 32 1) reducesTo_S4096x5_S4096_d1 (ix1 i))
    (constant (F := Ideal) S_ .f32 0xFF800000#32 (Shape.Idx.first h_S_), constantI S_ 32 0#32 (Shape.Idx.first h_S_))
  have hc := hb (x1 (ix2 i (kind x1 i)), BitVec.ofNat 32 (kind x1 i).val) ((mem_fiber x1 i _).mpr ⟨_, rfl⟩)
  have hf := first_spec fun d => (x1 (ix2 i d) : EReal)
  rcases hm with hm | hm
  · rw [hm] at hc ⊢
    have e0 : (constant (F := Ideal) S_ .f32 0xFF800000#32 (Shape.Idx.first h_S_) : EReal) = ⊥ := cBot
    show 0#32 = _
    rcases hc with hc | ⟨hc, -⟩
    · exact absurd (hc.trans_eq e0) not_lt_bot
    · have hz : kind x1 i = 0 := by
        by_contra hne
        have := (hf 0).2 (Fin.pos_of_ne_zero hne)
        exact absurd (this.trans_eq (hc.trans e0)) not_lt_bot
      rw [hz]; rfl
  · obtain ⟨d, hd⟩ := (mem_fiber x1 i _).mp hm
    rw [hd] at hc ⊢
    have : d = kind x1 i := by
      rcases hc with hc | ⟨hc, hle⟩
      · exact absurd hc (not_lt.mpr (hf d).1)
      · have hle' : d ≤ kind x1 i := by
          have hle : (BitVec.ofNat 32 d.val).toInt ≤ (BitVec.ofNat 32 (kind x1 i).val).toInt := hle
          rw [toInt_small _ (by omega), toInt_small _ (by omega)] at hle
          exact_mod_cast hle
        rcases lt_or_eq_of_le hle' with h | h
        · exact absurd hc ((hf d).2 h).ne'
        · exact h
    rw [this]

/-! ## The near bits, the core bits and a round -/

/-- The scatter's place for an update. -/
theorem lands (k : Fin 4096) (e : Fin 4) (idx : IVec S4096x1 32) (i : Fin 4096) (d : Fin 4) :
    scatter_S4096x4_S4096x1_S4096x4_1_0_0_1.resultIdx? (ix2 k e) idx = some (ix2 i d) ↔ (idx (ix2 k 0)).toInt = i.val ∧ e = d := by
  rw [← ix_eq i d, Routing.resultIdx?_ix2]
  have h0 : scatter_S4096x4_S4096x1_S4096x4_1_0_0_1.start (ix2 k e) idx 0 = (idx (ix2 k 0)).toInt := by
    unfold ScatterDims.start
    rw [dif_pos (by decide)]
    refine congrArg (fun y => (idx y).toInt) (funext fun b => ?_)
    match b with
    | ⟨0, _⟩ => rfl
    | ⟨1, _⟩ => rfl
  have h1 : scatter_S4096x4_S4096x1_S4096x4_1_0_0_1.start (ix2 k e) idx 1 = 0 := by
    unfold ScatterDims.start
    rw [dif_neg (by decide)]
  have w0 : scatter_S4096x4_S4096x1_S4096x4_1_0_0_1.window (ix2 k e) 0 = 0 := by
    unfold ScatterDims.window
    rw [dif_neg (by decide)]
  have w1 : scatter_S4096x4_S4096x1_S4096x4_1_0_0_1.window (ix2 k e) 1 = e.val := by
    unfold ScatterDims.window
    rw [dif_pos (by decide)]
    rfl
  rw [h0, h1, w0, w1, Fin.ext_iff]
  simp

theorem bat_apply (i : Fin 4096) : Run.bat x0 (ix1 i) = batch x0 i := by
  unfold Run.bat
  pointwise
  rfl

theorem near_apply (i j : Fin 4096) : Run.near x0 x1 (ix2 i j) = BitVec.ofBool (decide (Near x0 x1 i j)) := by
  unfold Run.near Run.dist Run.diffs Run.xyz
  pointwise
  have hk : IntOp.cmpi .eq (Run.cls x1 (ix1 i)) (Run.cls x1 (ix1 j)) = BitVec.ofBool (decide (kind x1 i = kind x1 j)) := by
    rw [cls_apply, cls_apply]
    refine congrArg BitVec.ofBool ?_
    rw [Bool.eq_iff_iff, beq_iff_eq, decide_eq_true_eq]
    refine ⟨fun h => ?_, fun h => h ▸ rfl⟩
    have := congrArg BitVec.toInt h
    rw [toInt_small _ (by omega), toInt_small _ (by omega)] at this
    exact Fin.ext (by exact_mod_cast this)
  rw [hk, bat_apply, bat_apply, ofBool_andi, ofBool_andi, Fin.sum_univ_three, ← Bool.decide_and, ← Bool.decide_and]
  refine congrArg BitVec.ofBool (decide_eq_decide.mpr ?_)
  exact ⟨fun h => ⟨h.1.1, h.2, h.1.2⟩, fun h => ⟨⟨h.1, h.2.2⟩, h.2.1⟩⟩

theorem core_apply (i : Fin 4096) : Run.core x0 x1 (ix1 i) = BitVec.ofBool (decide (Core x0 x1 i)) := by
  unfold Run.core
  pointwise
  rw [IndicatorCount.fold_addi_setWidth_eq_card]
  have hcard : (Finset.univ.filter fun j => Run.near x0 x1 (ix2 i j) = 1#1).card = count x0 x1 i := by
    refine congrArg Finset.card (Finset.filter_congr fun j _ => ?_)
    rw [near_apply]
    by_cases h : Near x0 x1 i j <;> simp [h]
  have hle : count x0 x1 i ≤ 4096 := (Finset.card_le_univ _).trans (by simp)
  rw [hcard]
  show BitVec.ofBool (BitVec.sle 3#32 _) = _
  rw [BitVec.sle_eq_decide, toInt_small (count x0 x1 i) (by omega)]
  refine congrArg BitVec.ofBool (decide_eq_decide.mpr ?_)
  show (3 : ℤ) ≤ _ ↔ 3 ≤ count x0 x1 i
  omega

theorem conn_apply (i j : Fin 4096) : Run.conn x0 x1 (ix2 i j) = BitVec.ofBool (decide (Conn x0 x1 i j)) := by
  unfold Run.conn
  pointwise
  rw [near_apply, core_apply, ofBool_andi, ← Bool.decide_and]
  rfl

/-- The lower bounds of a signed minimum. -/
theorem le_minsi (c : ℤ) (a b : BitVec 32) : c ≤ (IntOp.minsi a b).toInt ↔ c ≤ a.toInt ∧ c ≤ b.toInt := by
  unfold IntOp.minsi
  rw [BitVec.slt_eq_decide]
  split
  · rename_i h; have := of_decide_eq_true h; omega
  · rename_i h; have := not_lt.mp fun k => h (decide_eq_true k); omega

/-- The lower bounds of the signed minimum of many words. -/
theorem le_fold_minsi (c : ℤ) (b : BitVec 32) (f : Fin 4096 → BitVec 32) (s : Finset (Fin 4096)) :
    c ≤ (Finset.fold IntOp.minsi b f s).toInt ↔ c ≤ b.toInt ∧ ∀ x ∈ s, c ≤ (f x).toInt := by
  induction s using Finset.induction_on with
  | empty => simp
  | insert a s ha ih =>
    rw [Finset.fold_insert ha, le_minsi, ih, Finset.forall_mem_insert]
    tauto

/-- The lower bounds of a new label, as integers. -/
theorem le_step_int (C : Fin 4096 → Fin 4096 → Prop) [∀ i j, Decidable (C i j)] (L : Fin 4096 → ℕ) (i : Fin 4096) (c : ℤ) :
    c ≤ (step C L i : ℤ) ↔ c ≤ (L i : ℤ) ∧ ∀ j, c ≤ ((if C i j then L j else 4096 : ℕ) : ℤ) := by
  simp only [← Int.toNat_le, le_step]

/-- Words that hold natural numbers. -/
def IsWords (l : IVec S4096 32) (L : Fin 4096 → ℕ) : Prop := ∀ i, l (ix1 i) = BitVec.ofNat 32 (L i)

theorem round_isWords (l : IVec S4096 32) (L : Fin 4096 → ℕ) (h : IsWords l L) (hL : ∀ i, L i ≤ 4096) :
    IsWords (Run.round (Run.conn x0 x1) l) (step (Conn x0 x1) L) := by
  intro i
  have hb := step_bound (Conn x0 x1) L hL i
  have hL' : ∀ i, L i < 2 ^ 31 := fun i => by have := hL i; omega
  refine BitVec.eq_of_toInt_eq ?_
  rw [toInt_small _ (by omega)]
  refine eq_of_forall_le_iff fun c => ?_
  unfold Run.round
  pointwise
  rw [le_minsi, le_fold_minsi, le_step_int, h i, toInt_small _ (hL' i)]
  have hsel : ∀ j, (Scalar.select (Run.conn x0 x1 (ix2 i j)) (l (ix1 j)) 4096#32).toInt
      = ((if Conn x0 x1 i j then L j else 4096 : ℕ) : ℤ) := by
    intro j
    rw [conn_apply, h j]
    by_cases hc : Conn x0 x1 i j
    · rw [if_pos hc, decide_eq_true hc]; exact toInt_small _ (hL' j)
    · rw [if_neg hc, decide_eq_false hc]; rfl
  simp only [hsel, Finset.mem_univ, true_implies]
  refine and_congr_right fun h1 => and_iff_right ?_
  have h2 : (2147483647#32).toInt = 2147483647 := rfl
  have := hL i
  omega

/-- The reference's labels. -/
theorem labels_isWords : IsWords (Run.labels x0 x1) (lab x0 x1) := by
  unfold Run.labels lab
  have : ∀ n, IsWords ((Run.round (Run.conn x0 x1))^[n] (iotaInDim S4096 32 0)) ((step (Conn x0 x1))^[n] fun i => i.val)
      ∧ ∀ i, ((step (Conn x0 x1))^[n] fun i => i.val) i ≤ 4096 := by
    intro n
    induction n with
    | zero => exact ⟨fun i => rfl, fun i => i.isLt.le⟩
    | succ n ih =>
      rw [Function.iterate_succ_apply', Function.iterate_succ_apply']
      exact ⟨round_isWords x0 x1 _ _ ih.1 ih.2, step_bound _ _ ih.2⟩
  exact (this 20).1

end

end Cert.Val

end
-- ==== Proof.Val.Results.lean ====
/-
  The four results: what the kernel leaves is what the reference computes, whenever every batch number is one of 0, 1,
  2, 3.
-/
module

public import proofs.«01_k».proof.Proof.Val.Ref

@[expose] public section

set_option maxRecDepth 16384

noncomputable section

namespace Cert.Val

open Cert.ReferenceIdeal Cert.ReferenceIdeal.Gen
open Idealize.ShloMosaic

/-- A small natural number turned from a real into a word. -/
theorem fptosi_coe (n : ℕ) (h : n < 2 ^ 31) : FloatOps.fptosi (F := Ideal) (φ := .f32) 32 (((n : ℝ) : EReal)) = BitVec.ofNat 32 n := by
  show BitVec.ofInt 32 (max (-(2 ^ 31 : ℕ)) (min ((2 ^ 31 : ℕ) - 1) (if (0 : ℝ) ≤ (n : ℝ) then ⌊(n : ℝ)⌋ else ⌈(n : ℝ)⌉))) = _
  rw [if_pos (Nat.cast_nonneg n), Int.floor_natCast]
  have : max (-((2 ^ 31 : ℕ) : ℤ)) (min (((2 ^ 31 : ℕ) : ℤ) - 1) (n : ℤ)) = (n : ℤ) := by omega
  rw [this, BitVec.ofInt_natCast]

section
variable (x0 : Vec Ideal S4096x6 .f32) (x1 : Vec Ideal S4096x5 .f32) (hB : Drawn x0)

/-- The label as an index is the label. -/
theorem index_apply (i : Fin 4096) : Run.index (Run.labels x0 x1) (ix2 i 0) = BitVec.ofNat 32 (lab x0 x1 i) := by
  have hl := lab_lt x0 x1 i
  unfold Run.index
  pointwise
  rw [labels_isWords x0 x1 i]
  exact Routing.wrap_of_lt _ _ (by rw [BitVec.toNat_ofNat]; omega)

/-- A value looked up at every label. -/
theorem gather_apply {α : Type} (f : S4096.Idx → α) (i : Fin 4096) :
    Host.gather gather_S4096_S4096x1_S4096_n_0_n_n_0_1_1 f (Run.index (Run.labels x0 x1)) (ix1 i)
      = f (ix1 ⟨lab x0 x1 i, lab_lt x0 x1 i⟩) := by
  have hl := lab_lt x0 x1 i
  exact Routing.take_ap _ rfl rfl rfl rfl f _ i hl (by omega) ((congrArg _ (ix_eq _ _)).trans (index_apply x0 x1 i))

/-- A row of labels as words. -/
theorem words_of_row (lr : Vec Ideal S1x4096 .f32) (l : IVec S4096 32) (L : Fin 4096 → ℕ) (hL : ∀ i, L i < 2 ^ 31) (hr : IsRow lr L)
    (hw : IsWords l L) (h : S1x4096.ShapeCasts S4096) : shapeCast S4096 (KernelIdeal.Gen.k0_pay6 lr) h = l := by
  funext j
  idx_vars j
  pointwise
  rw [hw j0]
  unfold KernelIdeal.Gen.k0_pay6
  pointwise
  rw [hr j0]
  exact fptosi_coe _ (hL j0)

theorem lab_small (i : Fin 4096) : lab x0 x1 i < 2 ^ 31 := (lab_lt x0 x1 i).trans (by decide)

include hB in
/-- The labels. -/
theorem labels_eq (h : S1x4096.ShapeCasts S4096) :
    shapeCast S4096 (KernelIdeal.Run.outLabels x0 (turn0 x0) x1 (turn1 x1)) h = Run.labels x0 x1 :=
  words_of_row _ _ _ (lab_small x0 x1) (final_isRow x0 x1 hB) (labels_isWords x0 x1) h

/-- The batches. -/
theorem batch_eq : fptosi 32 (Run.bat x0) = Run.outBat x0 x1 := by
  funext j
  idx_vars j
  unfold Run.outBat
  show FloatOps.fptosi 32 (Run.bat x0 (ix1 j0)) = FloatOps.fptosi 32 (Host.gather _ (Run.bat x0) _ (ix1 j0))
  rw [gather_apply, bat_apply, bat_apply]
  obtain ⟨p, hp, hb, -⟩ := lab_good x0 x1 j0
  have e : (⟨lab x0 x1 j0, lab_lt x0 x1 j0⟩ : Fin 4096) = p := Fin.ext hp
  rw [e, hb]

/-- The classes. -/
theorem class_eq (h : S4096x1.ShapeCasts S4096) :
    fptosi 32 (shapeCast S4096 (KernelIdeal.Run.outClass x1) h) = Run.outCls x0 x1 := by
  funext j
  idx_vars j
  unfold Run.outCls
  rw [gather_apply, cls_apply]
  pointwise
  obtain ⟨p, hp, -, hk⟩ := lab_good x0 x1 j0
  have e : (⟨lab x0 x1 j0, lab_lt x0 x1 j0⟩ : Fin 4096) = p := Fin.ext hp
  rw [e, hk]
  refine (congrArg (FloatOps.fptosi (F := Ideal) (φ := .f32) 32) (pay3_apply x1 j0)).trans ?_
  exact fptosi_coe _ (by omega)

/-- A one-hot weight times a feature. -/
theorem onehot_mul (a b : ℕ) (ha : a < 2 ^ 31) (v : EReal) :
    (FloatOps.sitofp (F := Ideal) .f32 (BitVec.setWidth 32 (BitVec.ofBool (decide
      ((FloatOps.sitofp (F := Ideal) .f32 (BitVec.ofNat 32 a) : EReal) = ((b : ℝ) : EReal))))) : EReal) * v = if b = a then v else 0 := by
  rw [sitofp_bit, sitofp_ofNat a ha, ite_mul, one_mul, zero_mul]
  refine if_congr ?_ rfl rfl
  norm_cast
  exact eq_comm

/-- The kernel's feature sums: the features of the points that carry a label. -/
theorem featUpTo_apply (lr : Vec Ideal S1x4096 .f32) (L : Fin 4096 → ℕ) (hr : IsRow lr L) (i : Fin 4096) (d : Fin 4) :
    KernelIdeal.Run.featUpTo x0 lr 16 (ix2 i d)
      = ∑ p : Fin 4096, if L p = i.val then (x0 (ix2 p ⟨1 + d.val, by omega⟩) : EReal) else 0 := by
  rw [← sum_points]
  refine bands_sum (fun k => KernelIdeal.Run.featUpTo x0 lr k (ix2 i d)) _ ?_ fun t => ?_
  · show KernelIdeal.Gen.k0_pay4 (F := Ideal) (ix2 i d) = 0
    unfold KernelIdeal.Gen.k0_pay4
    pointwise
  · show KernelIdeal.Run.featUpTo x0 lr (t.val + 1) (ix2 i d) = _
    rw [KernelIdeal.Run.featUpTo_succ]
    unfold KernelIdeal.Gen.k0_pay5
    pointwise
    refine congrArg _ (Finset.sum_congr rfl fun x _ => ?_)
    rw [lanes_apply, hr, onehot_mul _ _ (by omega)]
    exact if_congr Iff.rfl (congrArg x0 (ix_eq _ _)) rfl

/-- The reference's feature sums, likewise. -/
theorem scatter_apply (l : IVec S4096 32) (L : Fin 4096 → ℕ) (hL : ∀ i, L i < 2 ^ 31) (hw : IsWords l L) (i : Fin 4096) (d : Fin 4) :
    Host.scatterAdd scatter_S4096x4_S4096x1_S4096x4_1_0_0_1
        (broadcastInDim S4096x4 ![] bcast_S_S4096x4 (constant (F := Ideal) S_ .f32 0x00000000#32))
        (broadcastInDim S4096x1 ![0] bcast_S4096_S4096x1_0 l)
        (extractStridedSlice S4096x4 ![0, 1] x0 slices_S4096x6_S4096x4_0_1) (ix2 i d)
      = ∑ p : Fin 4096, if L p = i.val then (x0 (ix2 p ⟨1 + d.val, by omega⟩) : EReal) else 0 := by
  unfold Host.scatterAdd
  rw [Ideal.hostScatterAdd_def]
  unfold Ideal.hostScatterAdd
  have h0 : (broadcastInDim S4096x4 ![] bcast_S_S4096x4 (constant (F := Ideal) S_ .f32 0x00000000#32) (ix2 i d) : EReal) = 0 := by
    pointwise
  rw [h0, zero_add, Finset.sum_filter, ValueIdx.sum_idx2]
  refine Finset.sum_congr rfl fun p _ => ?_
  have hidx : broadcastInDim S4096x1 ![0] bcast_S4096_S4096x1_0 l (ix2 p 0) = BitVec.ofNat 32 (L p) := by
    pointwise
    exact hw p
  have hone : ∀ e : Fin 4, (scatter_S4096x4_S4096x1_S4096x4_1_0_0_1.resultIdx? (ix2 p e)
      (broadcastInDim S4096x1 ![0] bcast_S4096_S4096x1_0 l) = some (ix2 i d)) ↔ (e = d ∧ L p = i.val) := by
    intro e
    rw [lands, hidx, toInt_small _ (hL p), and_comm]
    exact and_congr_right fun _ => Int.ofNat_inj
  have hval : extractStridedSlice S4096x4 ![0, 1] x0 slices_S4096x6_S4096x4_0_1 (ix2 p d) = x0 (ix2 p ⟨1 + d.val, by omega⟩) := by
    pointwise
  simp only [ix_eq, hone, ite_and]
  rw [Finset.sum_ite_eq' Finset.univ d, if_pos (Finset.mem_univ _), hval]

include hB in
/-- The feature sums. -/
theorem feat_eq : KernelIdeal.Run.outFeat x0 (turn0 x0) x1 (turn1 x1) = Run.outSum x0 x1 := by
  funext j
  idx_vars j
  exact (featUpTo_apply x0 _ _ (final_isRow x0 x1 hB) j0 j1).trans
    (scatter_apply x0 _ _ (lab_small x0 x1) (labels_isWords x0 x1) j0 j1).symm

end

end Cert.Val

end
-- ==== Proof.lean ====
/-
  The certificate's claims put together: the three frames, the kernel's idealisation, and the algebraic claim.
-/
module

public import proofs.«01_k».proof.Defs
public import proofs.«01_k».proof.Proof.K.Launch
public import proofs.«01_k».proof.Proof.KI.Launch
public import proofs.«01_k».proof.Proof.Ref.Run
public import Idealize.ShloMosaic.Lib.StableHlo.RunHlo
public import proofs.«01_k».proof.Proof.Val.Results
public import Idealize.ShloMosaic.Lib.Pointwise

@[expose] public section

noncomputable section

namespace Cert.Proof

open Idealize.ShloMosaic Idealize.SL.Sem

/-- The shape facts the precondition's text states. -/
theorem pre_facts : Cert.Pre_batch_drawn.Facts where
  slices_S4096x6_S4096x1_0_0 := Cert.ReferenceIdeal.Gen.facts.slices_S4096x6_S4096x1_0_0
  shapeCasts_S4096x1_S4096 := Cert.ReferenceIdeal.Gen.facts.shapeCasts_S4096x1_S4096
  bcast_S_S4096 := Cert.ReferenceIdeal.Gen.facts.bcast_S_S4096

/-- The kernel's frame. -/
theorem frame_P : Cert.quiescent_Kernel (hKernel := Cert.Kernel.Gen.facts) := fun m g _ =>
  θ_run_mono (Cert.Kernel.Run.run m g) fun _ h => ⟨fun c => (h.1 c).2.2.2.2, h.2⟩

/-- The idealised kernel's frame. -/
theorem frame_PI : Cert.quiescent_KernelIdeal (hKernelIdeal := Cert.KernelIdeal.Gen.facts) := fun m g _ =>
  θ_run_mono (Cert.KernelIdeal.Run.run m g) fun _ h => ⟨fun c => (h.1 c).2.2.2.2, h.2⟩

/-- The idealised reference's frame. -/
theorem frame_RI : Cert.quiescent_ReferenceIdeal (hReferenceIdeal := Cert.ReferenceIdeal.Gen.facts) := fun m g _ =>
  θ_run_mono (Cert.ReferenceIdeal.Run.run m g) fun _ h => ⟨fun c => (h.1 c).2.2.2.2, h.2⟩

/-- A decided statement whose bit is one holds. -/
theorem of_ofBool (p : Prop) [Decidable p] (h : BitVec.ofBool (decide p) = 1#1) : p := by
  by_contra hn; rw [decide_eq_false hn] at h; exact absurd h (by decide)

/-- A disjunction of bits is one only if one of them is. -/
theorem one_of_ori (a b : BitVec 1) (h : IntOp.ori a b = 1#1) : a = 1#1 ∨ b = 1#1 := by
  revert a b; decide

/-- The precondition read at a point: its batch number is one of the four that are drawn. -/
theorem drawn_of_pre (x0 : Vec Ideal Cert.KernelIdeal.S4096x6 .f32) (x1 : Vec Ideal Cert.KernelIdeal.S4096x5 .f32)
    (h : (haveI := pre_facts; Cert.Pre_batch_drawn.fn (F := Ideal) x0 x1) = fun _ => 1#1) : Cert.Val.Drawn x0 := by
  intro i
  have hi := congrFun h (ix1 i)
  unfold Cert.Pre_batch_drawn.fn at hi
  pointwise at hi
  rcases one_of_ori _ _ hi with hi | hi
  · rcases one_of_ori _ _ hi with hi | hi
    · rcases one_of_ori _ _ hi with hi | hi
      · exact ⟨0, by decide, (of_ofBool _ hi).trans (by simp)⟩
      · exact ⟨1, by decide, (of_ofBool _ hi).trans (by simp)⟩
    · exact ⟨2, by decide, (of_ofBool _ hi).trans (by rw [Cert.Val.c2]; norm_num)⟩
  · exact ⟨3, by decide, (of_ofBool _ hi).trans (by rw [Cert.Val.c3]; norm_num)⟩

/-- The idealised kernel and the idealised reference leave the same results, when the batch numbers are drawn ones. -/
theorem algebraic : Cert.algebraic_KernelIdeal_ReferenceIdeal_pre_batch_drawn (hKernelIdeal := Cert.KernelIdeal.Gen.facts)
    (hReferenceIdeal := Cert.ReferenceIdeal.Gen.facts) (hPre_batch_drawn := pre_facts) := by
  intro m g m' g' hpre hin
  have hd : ∀ c, Cert.Val.Drawn (Cert.KernelIdeal.Run.arg0 m c) := fun c => drawn_of_pre _ _ (hpre c)
  have e0 : ∀ c, Cert.ReferenceIdeal.Run.arg0 m' c = Cert.KernelIdeal.Run.arg0 m c := fun c => (hin c).1
  have e1 : ∀ c, Cert.ReferenceIdeal.Run.arg1 m' c = Cert.KernelIdeal.Run.arg1 m c := fun c => (hin c).2
  have r0 : ∀ c, Cert.KernelIdeal.Run.res0 m c
      = Cert.ReferenceIdeal.Run.labels (Cert.ReferenceIdeal.Run.arg0 m' c) (Cert.ReferenceIdeal.Run.arg1 m' c) := fun c => by
    rw [e0, e1]; unfold Cert.KernelIdeal.Run.res0
    rw [Cert.KernelIdeal.Run.in0_eq, Cert.KernelIdeal.Run.in1_eq, Cert.KernelIdeal.Run.in2_eq, Cert.KernelIdeal.Run.in3_eq]
    exact Cert.Val.labels_eq _ _ (hd c) _
  have r1 : ∀ c, Cert.KernelIdeal.Run.res1 m c
      = Cert.ReferenceIdeal.Run.outBat (Cert.ReferenceIdeal.Run.arg0 m' c) (Cert.ReferenceIdeal.Run.arg1 m' c) := fun c => by
    rw [e0, e1]; exact Cert.Val.batch_eq _ _
  have r2 : ∀ c, Cert.KernelIdeal.Run.res2 m c
      = Cert.ReferenceIdeal.Run.outCls (Cert.ReferenceIdeal.Run.arg0 m' c) (Cert.ReferenceIdeal.Run.arg1 m' c) := fun c => by
    rw [e0, e1]; unfold Cert.KernelIdeal.Run.res2
    rw [Cert.KernelIdeal.Run.in2_eq]
    exact Cert.Val.class_eq _ _ _
  have r3 : ∀ c, Cert.KernelIdeal.Run.res3 m c
      = Cert.ReferenceIdeal.Run.outSum (Cert.ReferenceIdeal.Run.arg0 m' c) (Cert.ReferenceIdeal.Run.arg1 m' c) := fun c => by
    rw [e0, e1]; unfold Cert.KernelIdeal.Run.res3
    rw [Cert.KernelIdeal.Run.in0_eq, Cert.KernelIdeal.Run.in1_eq, Cert.KernelIdeal.Run.in2_eq, Cert.KernelIdeal.Run.in3_eq]
    exact Cert.Val.feat_eq _ _ (hd c)
  refine ⟨Cert.KernelIdeal.Run.res0 m, Cert.KernelIdeal.Run.res1 m, Cert.KernelIdeal.Run.res2 m, Cert.KernelIdeal.Run.res3 m,
    θ_run_mono (Cert.KernelIdeal.Run.run m g) fun _ h => h.1,
    θ_run_mono (Cert.ReferenceIdeal.Run.run m' g') fun _ h c => ?_⟩
  obtain ⟨h0, h1, h2, h3, ha⟩ := h.1 c
  exact ⟨h0.trans (r0 c).symm, h1.trans (r1 c).symm, h2.trans (r2 c).symm, h3.trans (r3 c).symm, ha⟩

/-- The claims. -/
theorem claim : Cert.Claim :=
  ⟨Cert.Kernel.Gen.facts, Cert.KernelIdeal.Gen.facts, Cert.ReferenceIdeal.Gen.facts, pre_facts, frame_P, frame_PI,
    fun m g _ => frame_PI m g trivial, frame_RI, fun m g _ => frame_RI m g trivial, trivial, algebraic⟩

end Cert.Proof

end
